-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩
abbrev S2x128x64x64 : Shape := ⟨4, ![2, 128, 64, 64]⟩
abbrev S64x2x128x64 : Shape := ⟨4, ![64, 2, 128, 64]⟩
abbrev S128x128x64 : Shape := ⟨3, ![128, 128, 64]⟩
abbrev S512x512 : Shape := ⟨2, ![512, 512]⟩
abbrev S16x512x512 : Shape := ⟨3, ![16, 512, 512]⟩
abbrev S3 : Shape := ⟨1, ![3]⟩
abbrev S4 : Shape := ⟨1, ![4]⟩
abbrev S2 : Shape := ⟨1, ![2]⟩
abbrev S1x512x512 : Shape := ⟨3, ![1, 512, 512]⟩
abbrev S128x128 : Shape := ⟨2, ![128, 128]⟩
abbrev S1 : Shape := ⟨1, ![1]⟩
abbrev S256x256 : Shape := ⟨2, ![256, 256]⟩
abbrev S2x128x4x64 : Shape := ⟨4, ![2, 128, 4, 64]⟩
abbrev S4x2x128x64 : Shape := ⟨4, ![4, 2, 128, 64]⟩
abbrev S8x128x64 : Shape := ⟨3, ![8, 128, 64]⟩
abbrev S8x128x128 : Shape := ⟨3, ![8, 128, 128]⟩
abbrev S1x128x128 : Shape := ⟨3, ![1, 128, 128]⟩
abbrev S8x128 : Shape := ⟨2, ![8, 128]⟩
abbrev S8x128x1 : Shape := ⟨3, ![8, 128, 1]⟩

abbrev nBuf : Space → Nat
  | .hbm => 42
  | .vmem => 6
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S32x128x64x64, .bf16⟩
  | .hbm, ⟨3, _⟩ => ⟨S32x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x64x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x64x64, .bf16⟩
  | .hbm, ⟨33, _⟩ => ⟨S64x2x128x64, .bf16⟩
  | .hbm, ⟨34, _⟩ => ⟨S128x128x64, .bf16⟩
  | .hbm, ⟨35, _⟩ => ⟨S64x2x128x64, .bf16⟩
  | .hbm, ⟨36, _⟩ => ⟨S128x128x64, .bf16⟩
  | .hbm, ⟨37, _⟩ => ⟨S256x512, .bf16⟩
  | .hbm, ⟨38, _⟩ => ⟨S512x256, .bf16⟩
  | .hbm, ⟨39, _⟩ => ⟨S512x512, .bf16⟩
  | .hbm, ⟨40, _⟩ => ⟨S256x512, .f32⟩
  | .hbm, ⟨41, _⟩ => ⟨S2x128x512, .f32⟩
  | .local _ .vmem, ⟨0, _⟩ => ⟨S256x512, .bf16⟩
  | .local _ .vmem, ⟨1, _⟩ => ⟨S512x512, .bf16⟩
  | .local _ .vmem, ⟨2, _⟩ => ⟨S128x128x64, .bf16⟩
  | .local _ .vmem, ⟨3, _⟩ => ⟨S128x128x64, .bf16⟩
  | .local _ .vmem, ⟨4, _⟩ => ⟨S256x512, .f32⟩
  | .local _ .vmem, ⟨5, _⟩ => ⟨S16x512x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_9 : BitVec 32 := 1#32
  let v17 : BitVec 32 := Scalar.muli v7 c1_i32_9
  let v18 : BitVec 32 := Scalar.addi c0_i32 v17
  v18.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_11 : BitVec 32 := 1#32
  let v19 : BitVec 32 := Scalar.muli v10 c1_i32_11
  let v20 : BitVec 32 := Scalar.addi c0_i32_12 v19
  v20.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_14 : BitVec 32 := 1#32
  let v21 : BitVec 32 := Scalar.muli v12 c1_i32_14
  let v22 : BitVec 32 := Scalar.addi c0_i32_15 v21
  v22.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_5 : BitVec 32 := 16#32
  let v13 : BitVec 32 := Scalar.addi v2 c16_i32_5
  let c4_i32_6 : BitVec 32 := 4#32
  let v14 : BitVec 32 := Scalar.subi v13 c4_i32_6
  let c16_i32_7 : BitVec 32 := 16#32
  let v15 : BitVec 32 := Scalar.remsi v14 c16_i32_7
  let c1_i32_17 : BitVec 32 := 1#32
  let v23 : BitVec 32 := Scalar.muli v15 c1_i32_17
  let v24 : BitVec 32 := Scalar.addi c0_i32_18 v23
  v24.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : Index := Scalar.indexCast v2
  let c0_21 : Index := 0#32
  let c0_22 : Index := 0#32
  ![v27.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_50 : BitVec 32 := 0#32
  let c0_i32_51 : BitVec 32 := 0#32
  ![v2.toNat, 0, 0]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_48 : BitVec 32 := 1#32
  let v107 : BitVec 32 := Scalar.muli v12 c1_i32_48
  let v108 : BitVec 32 := Scalar.addi c0_i32_49 v107
  v108.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_56 : BitVec 32 := 1#32
  let v117 : BitVec 32 := Scalar.muli v7 c1_i32_56
  let v118 : BitVec 32 := Scalar.addi c0_i32_57 v117
  v118.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_64 : BitVec 32 := 1#32
  let v127 : BitVec 32 := Scalar.muli v10 c1_i32_64
  let v128 : BitVec 32 := Scalar.addi c0_i32_65 v127
  v128.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v148 : BitVec 32 := Scalar.muli v2 c8_i32
  let v149 : Index := Scalar.indexCast v148
  let c0_72 : Index := 0#32
  let c0_73 : Index := 0#32
  ![v149.toNat, 0, 0]
def k0_off4 (d0 : Dev nD) (c4_i32_85 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_84 : BitVec 32 := 16#32
  let v180 : BitVec 32 := Scalar.addi v2 c16_i32_84
  let v181 : BitVec 32 := Scalar.subi v180 c4_i32_85
  let c16_i32_86 : BitVec 32 := 16#32
  let v182 : BitVec 32 := Scalar.remsi v181 c16_i32_86
  let c0_i32_91 : BitVec 32 := 0#32
  let c0_i32_92 : BitVec 32 := 0#32
  ![v182.toNat, 0, 0]
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_97 : BitVec 32 := 1#32
  let v191 : BitVec 32 := Scalar.muli v12 c1_i32_97
  let v192 : BitVec 32 := Scalar.addi c0_i32_98 v191
  v192.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_105 : BitVec 32 := 1#32
  let v201 : BitVec 32 := Scalar.muli v7 c1_i32_105
  let v202 : BitVec 32 := Scalar.addi c0_i32_106 v201
  v202.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_113 : BitVec 32 := 1#32
  let v211 : BitVec 32 := Scalar.muli v10 c1_i32_113
  let v212 : BitVec 32 := Scalar.addi c0_i32_114 v211
  v212.toNat
def k0_off5 (d0 : Dev nD) (c3_i32 : BitVec 32) (c0_i32_120 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c16_i32_119 : BitVec 32 := 16#32
  let v221 : BitVec 32 := Scalar.addi v10 c16_i32_119
  let v222 : BitVec 32 := Scalar.subi v221 c0_i32_120
  let c16_i32_121 : BitVec 32 := 16#32
  let v223 : BitVec 32 := Scalar.remsi v222 c16_i32_121
  let c0_i32_126 : BitVec 32 := 0#32
  let c0_i32_127 : BitVec 32 := 0#32
  ![v223.toNat, 0, 0]
def k0_dev11 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_143 : BitVec 32 := 1#32
  let v243 : BitVec 32 := Scalar.muli v10 c1_i32_143
  let v244 : BitVec 32 := Scalar.addi c0_i32_144 v243
  v244.toNat
def k0_off6 (d0 : Dev nD) (c4_i32_85 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_84 : BitVec 32 := 16#32
  let v180 : BitVec 32 := Scalar.addi v2 c16_i32_84
  let v181 : BitVec 32 := Scalar.subi v180 c4_i32_85
  let c16_i32_86 : BitVec 32 := 16#32
  let v182 : BitVec 32 := Scalar.remsi v181 c16_i32_86
  let v253 : Index := Scalar.indexCast v182
  let c0_149 : Index := 0#32
  let c0_150 : Index := 0#32
  ![v253.toNat, 0, 0]
def k0_off7 (d0 : Dev nD) (c4_i32_85 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_84 : BitVec 32 := 16#32
  let v180 : BitVec 32 := Scalar.addi v2 c16_i32_84
  let v181 : BitVec 32 := Scalar.subi v180 c4_i32_85
  let c16_i32_86 : BitVec 32 := 16#32
  let v182 : BitVec 32 := Scalar.remsi v181 c16_i32_86
  let c8_i32_152 : BitVec 32 := 8#32
  let v264 : BitVec 32 := Scalar.muli v182 c8_i32_152
  let v265 : Index := Scalar.indexCast v264
  let c0_153 : Index := 0#32
  let c0_154 : Index := 0#32
  ![v265.toNat, 0, 0]
def k0_off8 (d0 : Dev nD) (c3_i32 : BitVec 32) (c0_i32_120 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c16_i32_119 : BitVec 32 := 16#32
  let v221 : BitVec 32 := Scalar.addi v10 c16_i32_119
  let v222 : BitVec 32 := Scalar.subi v221 c0_i32_120
  let c16_i32_121 : BitVec 32 := 16#32
  let v223 : BitVec 32 := Scalar.remsi v222 c16_i32_121
  let v297 : Index := Scalar.indexCast v223
  let c0_165 : Index := 0#32
  let c0_166 : Index := 0#32
  ![v297.toNat, 0, 0]
def k0_off9 (d0 : Dev nD) (c3_i32 : BitVec 32) (c0_i32_120 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let v8 : BitVec 32 := Scalar.addi v3 c3_i32
  let c4_i32_2 : BitVec 32 := 4#32
  let v9 : BitVec 32 := Scalar.remsi v8 c4_i32_2
  let v10 : BitVec 32 := Scalar.addi v4 v9
  let c16_i32_119 : BitVec 32 := 16#32
  let v221 : BitVec 32 := Scalar.addi v10 c16_i32_119
  let v222 : BitVec 32 := Scalar.subi v221 c0_i32_120
  let c16_i32_121 : BitVec 32 := 16#32
  let v223 : BitVec 32 := Scalar.remsi v222 c16_i32_121
  let c8_i32_168 : BitVec 32 := 8#32
  let v308 : BitVec 32 := Scalar.muli v223 c8_i32_168
  let v309 : Index := Scalar.indexCast v308
  let c0_169 : Index := 0#32
  let c0_170 : Index := 0#32
  ![v309.toNat, 0, 0]
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_209 : BitVec 32 := 1#32
  let v396 : BitVec 32 := Scalar.muli v12 c1_i32_209
  let v397 : BitVec 32 := Scalar.addi c0_i32_210 v396
  v397.toNat
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_217 : BitVec 32 := 1#32
  let v406 : BitVec 32 := Scalar.muli v7 c1_i32_217
  let v407 : BitVec 32 := Scalar.addi c0_i32_218 v406
  v407.toNat
def k0_dev14 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_225 : BitVec 32 := 1#32
  let v416 : BitVec 32 := Scalar.muli v10 c1_i32_225
  let v417 : BitVec 32 := Scalar.addi c0_i32_226 v416
  v417.toNat
def k0_dev15 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_244 : BitVec 32 := 1#32
  let v437 : BitVec 32 := Scalar.muli v7 c1_i32_244
  let v438 : BitVec 32 := Scalar.addi c0_i32_245 v437
  v438.toNat
def k0_dev16 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_321 : BitVec 32 := 1#32
  let v601 : BitVec 32 := Scalar.muli v7 c1_i32_321
  let v602 : BitVec 32 := Scalar.addi c0_i32_322 v601
  v602.toNat
def k0_dev17 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_329 : BitVec 32 := 1#32
  let v611 : BitVec 32 := Scalar.muli v10 c1_i32_329
  let v612 : BitVec 32 := Scalar.addi c0_i32_330 v611
  v612.toNat
def k0_dev18 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_348 : BitVec 32 := 1#32
  let v632 : BitVec 32 := Scalar.muli v7 c1_i32_348
  let v633 : BitVec 32 := Scalar.addi c0_i32_349 v632
  v633.toNat
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_437 : BitVec 32 := 1#32
  let v807 : BitVec 32 := Scalar.muli v10 c1_i32_437
  let v808 : BitVec 32 := Scalar.addi c0_i32_438 v807
  v808.toNat
def k0_dev20 (d0 : Dev nD) : Nat :=
  let c0_i32_694_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_693_r0 : BitVec 32 := 1#32
  let v1220_r0 : BitVec 32 := Scalar.muli v7 c1_i32_693_r0
  let v1221_r0 : BitVec 32 := Scalar.addi c0_i32_694_r0 v1220_r0
  v1221_r0.toNat
def k0_dev21 (d0 : Dev nD) : Nat :=
  let c0_i32_697_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_696_r0 : BitVec 32 := 1#32
  let v1222_r0 : BitVec 32 := Scalar.muli v10 c1_i32_696_r0
  let v1223_r0 : BitVec 32 := Scalar.addi c0_i32_697_r0 v1222_r0
  v1223_r0.toNat
def k0_dev22 (d0 : Dev nD) : Nat :=
  let c0_i32_700_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_699_r0 : BitVec 32 := 1#32
  let v1224_r0 : BitVec 32 := Scalar.muli v12 c1_i32_699_r0
  let v1225_r0 : BitVec 32 := Scalar.addi c0_i32_700_r0 v1224_r0
  v1225_r0.toNat
def k0_dev23 (d0 : Dev nD) : Nat :=
  let c0_i32_703_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_5 : BitVec 32 := 16#32
  let v13 : BitVec 32 := Scalar.addi v2 c16_i32_5
  let c4_i32_6 : BitVec 32 := 4#32
  let v14 : BitVec 32 := Scalar.subi v13 c4_i32_6
  let c16_i32_7 : BitVec 32 := 16#32
  let v15 : BitVec 32 := Scalar.remsi v14 c16_i32_7
  let c1_i32_702_r0 : BitVec 32 := 1#32
  let v1226_r0 : BitVec 32 := Scalar.muli v15 c1_i32_702_r0
  let v1227_r0 : BitVec 32 := Scalar.addi c0_i32_703_r0 v1226_r0
  v1227_r0.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S32x128x4096 : Shape := ⟨3, ![32, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S32x128x512, .bf16⟩
  | .hbm, ⟨1, _⟩ => ⟨S512x4096, .bf16⟩
  | .hbm, ⟨2, _⟩ => ⟨S32x128x64x64, .bf16⟩
  | .hbm, ⟨3, _⟩ => ⟨S32x128x64x64, .bf16⟩
  | .hbm, ⟨4, _⟩ => ⟨S4096x512, .bf16⟩
  | .hbm, ⟨5, _⟩ => ⟨S32x128x512, .f32⟩
  | .hbm, ⟨6, _⟩ => ⟨S512x4096, .f32⟩
  | .hbm, ⟨7, _⟩ => ⟨S32x128x64x64, .f32⟩
  | .hbm, ⟨8, _⟩ => ⟨S32x128x64x64, .f32⟩
  | .hbm, ⟨9, _⟩ => ⟨S4096x512, .f32⟩
  | .hbm, ⟨10, _⟩ => ⟨S32x128x4096, .f32⟩
  | .hbm, ⟨11, _⟩ => ⟨S32x128x64x64, .f32⟩
  | .hbm, ⟨12, _⟩ => ⟨S128, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S128x128, .i1⟩
  | .hbm, ⟨59, _⟩ => ⟨S128x128, .i1⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i1⟩
  | .hbm, ⟨74, _⟩ => ⟨S_, .i32⟩
  | .hbm, ⟨75, _⟩ => ⟨S128x128, .i32⟩
  | .hbm, ⟨76, _⟩ => ⟨S128x128, .i1⟩
  | .hbm, ⟨77, _⟩ => ⟨S_, .i32⟩
  | .hbm, ⟨78, _⟩ => ⟨S_, .i1⟩
  | .hbm, ⟨79, _⟩ => ⟨S128x128, .i1⟩
  | .hbm, ⟨80, _⟩ => ⟨S128x128, .i1⟩
  | .hbm, ⟨81, _⟩ => ⟨S128x128, .i1⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S_, .i32⟩
  | .hbm, ⟨86, _⟩ => ⟨S128x128, .i32⟩
  | .hbm, ⟨87, _⟩ => ⟨S128x128, .i1⟩
  | .hbm, ⟨88, _⟩ => ⟨S128x128, .i1⟩
  | .hbm, ⟨89, _⟩ => ⟨S32x64x128x128, .f32⟩
  | .hbm, ⟨90, _⟩ => ⟨S_, .f32⟩
  | .hbm, ⟨91, _⟩ => ⟨S32x64x128x128, .f32⟩
  | .hbm, ⟨92, _⟩ => ⟨S32x64x128x128, .f32⟩
  | .hbm, ⟨93, _⟩ => ⟨S1x1x128x128, .i1⟩
  | .hbm, ⟨94, _⟩ => ⟨S_, .f32⟩
  | .hbm, ⟨95, _⟩ => ⟨S_, .f32⟩
  | .hbm, ⟨96, _⟩ => ⟨S32x64x128x128, .i1⟩
  | .hbm, ⟨97, _⟩ => ⟨S32x64x128x128, .f32⟩
  | .hbm, ⟨98, _⟩ => ⟨S32x64x128x128, .f32⟩
  | .hbm, ⟨99, _⟩ => ⟨S_, .f32⟩
  | .hbm, ⟨100, _⟩ => ⟨S32x64x128, .f32⟩
  | .hbm, ⟨101, _⟩ => ⟨S32x64x128x1, .f32⟩
  | .hbm, ⟨102, _⟩ => ⟨S32x64x128x128, .f32⟩
  | .hbm, ⟨103, _⟩ => ⟨S32x64x128x128, .f32⟩
  | .hbm, ⟨104, _⟩ => ⟨S32x64x128x128, .f32⟩
  | .hbm, ⟨105, _⟩ => ⟨S_, .i1⟩
  | .hbm, ⟨106, _⟩ => ⟨S128, .i1⟩
  | .hbm, ⟨107, _⟩ => ⟨S1x1x128x1, .i1⟩
  | .hbm, ⟨108, _⟩ => ⟨S_, .f32⟩
  | .hbm, ⟨109, _⟩ => ⟨S32x64x128, .f32⟩
  | .hbm, ⟨110, _⟩ => ⟨S32x64x128x1, .f32⟩
  | .hbm, ⟨111, _⟩ => ⟨S_, .f32⟩
  | .hbm, ⟨112, _⟩ => ⟨S_, .f32⟩
  | .hbm, ⟨113, _⟩ => ⟨S32x64x128x1, .i1⟩
  | .hbm, ⟨114, _⟩ => ⟨S32x64x128x1, .f32⟩
  | .hbm, ⟨115, _⟩ => ⟨S32x64x128x1, .f32⟩
  | .hbm, ⟨116, _⟩ => ⟨S32x64x128x128, .f32⟩
  | .hbm, ⟨117, _⟩ => ⟨S32x64x128x128, .f32⟩
  | .hbm, ⟨118, _⟩ => ⟨S1x1x128x1, .i1⟩
  | .hbm, ⟨119, _⟩ => ⟨S_, .f32⟩
  | .hbm, ⟨120, _⟩ => ⟨S_, .f32⟩
  | .hbm, ⟨121, _⟩ => ⟨S32x64x128x128, .i1⟩
  | .hbm, ⟨122, _⟩ => ⟨S32x64x128x128, .f32⟩
  | .hbm, ⟨123, _⟩ => ⟨S32x64x128x128, .f32⟩
  | .hbm, ⟨124, _⟩ => ⟨S32x64x64x128, .f32⟩
  | .hbm, ⟨125, _⟩ => ⟨S32x128x64x64, .f32⟩
  | .hbm, ⟨126, _⟩ => ⟨S32x128x4096, .f32⟩
  | .hbm, ⟨127, _⟩ => ⟨S32x128x512, .f32⟩
  | _, _ => ⟨S32x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Topology.lean ====
/- The sixteen devices as four planes of four, the fifteen transfers each of them sends and receives, and where each one
   lands. Transfers are numbered in the order the program starts them:
   0, 3, 7 go to the next plane; 1, 4, 8, 11 and 10, 13 go right inside the plane; 2, 5, 9, 12 and 6, 14 go left. -/
module

public import proofs.«01_k».proof.Proof.Gen.Kernel

@[expose] public section

noncomputable section

namespace Cert.Proof

open Cert.Kernel Cert.Kernel.Gen
open Idealize.ShloMosaic
open Idealize.ShloMosaic.TcCoe

/-! ## Devices -/

set_option backward.proofsInPublic true in
/-- The device `a` to the right in the same plane of four, the remainder of `c` by four rotated. -/
def rot (c : Dev nD) (a : ℕ) : Dev nD := ⟨c.val - c.val % 4 + (c.val % 4 + a) % 4, by have := c.isLt; simp only [nD] at *; omega⟩
set_option backward.proofsInPublic true in
/-- The device `4 k` before `c`, around the sixteen. -/
def back (c : Dev nD) (k : ℕ) : Dev nD := ⟨(c.val + 16 - 4 * (k % 4)) % 16, by simp only [nD]; omega⟩

/-- The neighbour of `c` in direction 0 (right), 1 (left), 2 (next plane), 3 (plane before). -/
def nbr (c : Dev nD) : Fin 4 → Dev nD
  | 0 => rot c 1
  | 1 => rot c 3
  | 2 => back c 3
  | 3 => back c 1

/-- The direction back. -/
def opp : Fin 4 → Fin 4
  | 0 => 1
  | 1 => 0
  | 2 => 3
  | 3 => 2

theorem nbr_opp (c : Dev nD) (d : Fin 4) : nbr (nbr c d) (opp d) = c := by revert c d; decide
theorem opp_opp (d : Fin 4) : opp (opp d) = d := by revert d; decide
theorem nbr_opp' (c : Dev nD) (d : Fin 4) : nbr (nbr c (opp d)) d = c := by revert c d; decide

/-- Going one step in direction `d` is a permutation of the devices. -/
def step (d : Fin 4) : Dev nD ≃ Dev nD := ⟨fun c => nbr c d, fun c => nbr c (opp d), fun c => nbr_opp c d, fun c => nbr_opp' c d⟩

/-! ## Transfers -/

/-- The direction transfer `k` goes in. -/
def dir : Fin 15 → Fin 4
  | 0 => 2 | 1 => 0 | 2 => 1 | 3 => 2 | 4 => 0 | 5 => 1 | 6 => 1 | 7 => 2 | 8 => 0 | 9 => 1 | 10 => 0 | 11 => 0 | 12 => 1 | 13 => 0 | 14 => 1

/-- The device transfer `k` of `c` goes to. -/
def dst (c : Dev nD) (k : Fin 15) : Dev nD := nbr c (dir k)
/-- The device transfer `k` comes to `c` from. -/
def org (c : Dev nD) (k : Fin 15) : Dev nD := nbr c (opp (dir k))

theorem dst_org (c : Dev nD) (k : Fin 15) : dst (org c k) k = c := nbr_opp' c (dir k)
theorem org_dst (c : Dev nD) (k : Fin 15) : org (dst c k) k = c := nbr_opp c (dir k)

/-- The number of the DMA semaphore the sender of transfer `k` waits on, and of the one its receiver waits on. -/
def sNum : Fin 15 → ℕ
  | 0 => 5 | 1 => 11 | 2 => 19 | 3 => 6 | 4 => 12 | 5 => 20 | 6 => 31 | 7 => 7 | 8 => 13 | 9 => 21 | 10 => 27 | 11 => 14 | 12 => 22 | 13 => 28 | 14 => 32
def rNum : Fin 15 → ℕ
  | 0 => 8 | 1 => 15 | 2 => 23 | 3 => 9 | 4 => 16 | 5 => 24 | 6 => 33 | 7 => 10 | 8 => 17 | 9 => 25 | 10 => 29 | 11 => 18 | 12 => 26 | 13 => 30 | 14 => 34

/-- The slot of the gathered buffer of `c` that source `a` fills: source 15 is the device's own block, source `k` what
    transfer `k` brings. A slot is named by the device whose block it holds. -/
def slotOf (c : Dev nD) : Fin 16 → Dev nD :=
  ![back c 1, rot c 3, rot c 1, back c 2, back (rot c 3) 1, back (rot c 1) 1, rot c 2, back c 3,
    back (rot c 3) 2, back (rot c 1) 2, back (rot c 2) 1, back (rot c 3) 3, back (rot c 1) 3, back (rot c 2) 2, back (rot c 2) 3, c]

/-- The slot transfer `k` lands in on `c`. -/
abbrev rslot (c : Dev nD) (k : Fin 15) : Dev nD := slotOf c k.castSucc

/-- The source whose slot transfer `k` sends on, and which quarter of that slot it borrows meanwhile. -/
def src : Fin 15 → Fin 16
  | 0 => 15 | 1 => 15 | 2 => 15 | 3 => 0 | 4 => 0 | 5 => 0 | 6 => 2 | 7 => 3 | 8 => 3 | 9 => 3 | 10 => 4 | 11 => 7 | 12 => 7 | 13 => 8 | 14 => 12
def part : Fin 15 → Fin 4
  | 0 => 0 | 1 => 1 | 2 => 2 | 3 => 0 | 4 => 1 | 5 => 2 | 6 => 0 | 7 => 0 | 8 => 1 | 9 => 2 | 10 => 0 | 11 => 1 | 12 => 2 | 13 => 0 | 14 => 0

/-- What `c` sends as transfer `k` is the slot it lands in on the other side. -/
theorem sent_slot (c : Dev nD) (k : Fin 15) : slotOf c (src k) = rslot (dst c k) k := by revert c k; decide +kernel

theorem slotOf_inj (c : Dev nD) : Function.Injective (slotOf c) := by revert c; decide +kernel
theorem slotOf_surj (c : Dev nD) : Function.Surjective (slotOf c) := by revert c; decide +kernel

/-- The sources of a device, one for each slot. -/
def slotEquiv (c : Dev nD) : Fin 16 ≃ Dev nD := Equiv.ofBijective (slotOf c) ⟨slotOf_inj c, slotOf_surj c⟩

/-- The order in which the program waits for the transfers it receives, and the place of each in it. -/
def rord : Fin 15 → Fin 15
  | 0 => 0 | 1 => 1 | 2 => 2 | 3 => 3 | 4 => 4 | 5 => 5 | 6 => 7 | 7 => 8 | 8 => 9 | 9 => 11 | 10 => 12 | 11 => 6 | 12 => 10 | 13 => 13 | 14 => 14
def rpos : Fin 15 → ℕ
  | 0 => 0 | 1 => 1 | 2 => 2 | 3 => 3 | 4 => 4 | 5 => 5 | 6 => 11 | 7 => 6 | 8 => 7 | 9 => 8 | 10 => 12 | 11 => 9 | 12 => 10 | 13 => 13 | 14 => 14

/-! ## What is held at each moment -/

/-- Whether source `a` has arrived once `n` of the waits for what comes in are over. -/
def arrived (n : ℕ) (a : Fin 16) : Bool := if h : a.val < 15 then decide (rpos ⟨a.val, h⟩ < n) else true

/-- The quarters of slots a device holds once `s` transfers are started, `n` received and `w` known to be sent. -/
def avail (s n w : ℕ) : Finset (Fin 16 × Fin 4) :=
  Finset.univ.filter fun x => arrived n x.1 = true ∧ ∀ k : Fin 15, ¬ (w ≤ k.val ∧ k.val < s ∧ src k = x.1 ∧ part k = x.2)

/-! ## The device chains of the program in closed form -/

theorem dev1 (c : Dev nD) : (⟨k0_dev1 c, k0_dev1_lt c⟩ : Dev nD) = nbr c 0 := by revert c; decide +kernel
theorem dev2 (c : Dev nD) : (⟨k0_dev2 c, k0_dev2_lt c⟩ : Dev nD) = nbr c 1 := by revert c; decide +kernel
theorem dev3 (c : Dev nD) : (⟨k0_dev3 c, k0_dev3_lt c⟩ : Dev nD) = nbr c 2 := by revert c; decide +kernel
theorem dev4 (c : Dev nD) : (⟨k0_dev4 c, k0_dev4_lt c⟩ : Dev nD) = nbr c 3 := by revert c; decide +kernel
theorem dev5 (c : Dev nD) : (⟨k0_dev5 c, k0_dev5_lt c⟩ : Dev nD) = dst c 0 := by revert c; decide +kernel
theorem dev6 (c : Dev nD) : (⟨k0_dev6 c, k0_dev6_lt c⟩ : Dev nD) = dst c 1 := by revert c; decide +kernel
theorem dev7 (c : Dev nD) : (⟨k0_dev7 c, k0_dev7_lt c⟩ : Dev nD) = dst c 2 := by revert c; decide +kernel
theorem dev8 (c : Dev nD) : (⟨k0_dev8 c, k0_dev8_lt c⟩ : Dev nD) = dst c 3 := by revert c; decide +kernel
theorem dev9 (c : Dev nD) : (⟨k0_dev9 c, k0_dev9_lt c⟩ : Dev nD) = dst c 4 := by revert c; decide +kernel
theorem dev10 (c : Dev nD) : (⟨k0_dev10 c, k0_dev10_lt c⟩ : Dev nD) = dst c 5 := by revert c; decide +kernel
theorem dev11 (c : Dev nD) : (⟨k0_dev11 c, k0_dev11_lt c⟩ : Dev nD) = dst c 6 := by revert c; decide +kernel
theorem dev12 (c : Dev nD) : (⟨k0_dev12 c, k0_dev12_lt c⟩ : Dev nD) = dst c 7 := by revert c; decide +kernel
theorem dev13 (c : Dev nD) : (⟨k0_dev13 c, k0_dev13_lt c⟩ : Dev nD) = dst c 8 := by revert c; decide +kernel
theorem dev14 (c : Dev nD) : (⟨k0_dev14 c, k0_dev14_lt c⟩ : Dev nD) = dst c 9 := by revert c; decide +kernel
theorem dev15 (c : Dev nD) : (⟨k0_dev15 c, k0_dev15_lt c⟩ : Dev nD) = dst c 10 := by revert c; decide +kernel
theorem dev16 (c : Dev nD) : (⟨k0_dev16 c, k0_dev16_lt c⟩ : Dev nD) = dst c 11 := by revert c; decide +kernel
theorem dev17 (c : Dev nD) : (⟨k0_dev17 c, k0_dev17_lt c⟩ : Dev nD) = dst c 12 := by revert c; decide +kernel
theorem dev18 (c : Dev nD) : (⟨k0_dev18 c, k0_dev18_lt c⟩ : Dev nD) = dst c 13 := by revert c; decide +kernel
theorem dev19 (c : Dev nD) : (⟨k0_dev19 c, k0_dev19_lt c⟩ : Dev nD) = dst c 14 := by revert c; decide +kernel
theorem dev20 (c : Dev nD) : (⟨k0_dev20 c, k0_dev20_lt c⟩ : Dev nD) = nbr c 0 := by revert c; decide +kernel
theorem dev21 (c : Dev nD) : (⟨k0_dev21 c, k0_dev21_lt c⟩ : Dev nD) = nbr c 1 := by revert c; decide +kernel
theorem dev22 (c : Dev nD) : (⟨k0_dev22 c, k0_dev22_lt c⟩ : Dev nD) = nbr c 2 := by revert c; decide +kernel
theorem dev23 (c : Dev nD) : (⟨k0_dev23 c, k0_dev23_lt c⟩ : Dev nD) = nbr c 3 := by revert c; decide +kernel

/-! ## The offsets of the program in closed form: each names the slot of a source -/

theorem off1 (c : Dev nD) : k0_off1 c = ![(slotOf c 15).val, 0, 0] := k0_off1_eq c
theorem off2 (c : Dev nD) : k0_off2 c = ![(slotOf c 15).val, 0, 0] := k0_off2_eq c
theorem off3 (c : Dev nD) : k0_off3 c = ![8 * (slotOf c 15).val, 0, 0] := k0_off3_eq c

/-- The source behind row `r` of the plane offsets, and behind the rows of the ring offsets. -/
def zsrc : Fin 3 → Fin 16 | 0 => 0 | 1 => 3 | 2 => 7
def psrc : Fin 3 → Fin 4 → Fin 16
  | 0, 0 => 2 | 0, 1 => 5 | 0, 2 => 9 | 0, 3 => 12
  | 1, 0 => 6 | 1, 1 => 10 | 1, 2 => 13 | 1, 3 => 14
  | 2, 0 => 1 | 2, 1 => 4 | 2, 2 => 8 | 2, 3 => 11

theorem zval (c : Dev nD) (r : Fin 3) : ((c.val + 12) - 4 * r.val) % 16 = (slotOf c (zsrc r)).val := by revert c r; decide +kernel
theorem pval (c : Dev nD) (r₁ : Fin 3) (r₂ : Fin 4) :
    ((c.val + (((c.val % 4) + r₁.val + 1) % 4) + 16) - ((c.val % 4) + 4 * r₂.val)) % 16 = (slotOf c (psrc r₁ r₂)).val := by
  revert c r₁ r₂; decide +kernel

theorem off4 (c : Dev nD) (r : Fin 3) : k0_off4 c (BitVec.ofNat 32 (4 + 4 * r.val)) = ![(slotOf c (zsrc r)).val, 0, 0] := by
  rw [k0_off4_eq, zval]
theorem off6 (c : Dev nD) (r : Fin 3) : k0_off6 c (BitVec.ofNat 32 (4 + 4 * r.val)) = ![(slotOf c (zsrc r)).val, 0, 0] := by
  rw [k0_off6_eq, zval]
theorem off7 (c : Dev nD) (r : Fin 3) : k0_off7 c (BitVec.ofNat 32 (4 + 4 * r.val)) = ![8 * (slotOf c (zsrc r)).val, 0, 0] := by
  rw [k0_off7_eq, zval]
theorem off5 (c : Dev nD) (r₁ : Fin 3) (r₂ : Fin 4) :
    k0_off5 c (BitVec.ofNat 32 (1 + r₁.val)) (BitVec.ofNat 32 (4 * r₂.val)) = ![(slotOf c (psrc r₁ r₂)).val, 0, 0] := by
  rw [k0_off5_eq, pval]
theorem off8 (c : Dev nD) (r₁ : Fin 3) (r₂ : Fin 4) :
    k0_off8 c (BitVec.ofNat 32 (1 + r₁.val)) (BitVec.ofNat 32 (4 * r₂.val)) = ![(slotOf c (psrc r₁ r₂)).val, 0, 0] := by
  rw [k0_off8_eq, pval]
theorem off9 (c : Dev nD) (r₁ : Fin 3) (r₂ : Fin 4) :
    k0_off9 c (BitVec.ofNat 32 (1 + r₁.val)) (BitVec.ofNat 32 (4 * r₂.val)) = ![8 * (slotOf c (psrc r₁ r₂)).val, 0, 0] := by
  rw [k0_off9_eq, pval]

end Cert.Proof

end
-- ==== Proof.Schedule.lean ====
/- The cells of the exchange, the slots of the gathered buffer, what each slot holds once filled, and the schedule of duties:
   who pays which semaphore, by how much, and what the payment hands over. -/
module

public import proofs.«01_k».proof.Proof.Topology
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's copy and the exchange's, whose duties are numbered by `Fin 4` -/

abbrev UU : Type := UR sig nD τ × URounds (GSem nD τ sig) (Fin 4)
local notation "𝕄" => MT nD τ sig Unit (Elt F) ℕ UU ℕ
abbrev EP : Emb (UR sig nD τ) (MT nD τ sig Unit (Elt F) ℕ UU ℕ) := embL
abbrev ER : Emb (URounds (GSem nD τ sig) (Fin 4)) (MT nD τ sig Unit (Elt F) ℕ UU ℕ) := embR

abbrev 𝒱₀ : Variants := Variants.none

variable (m : (ℓ : Loc nD τ sig) → Buf (Elt F) ℓ)

/-! ## The kinds of cells -/

/-- A semaphore of the exchange: the barrier at its start, the one at its end, the sender's and the receiver's of transfer `k`. -/
inductive Kd where
  | bar
  | fin
  | send (k : Fin 15)
  | recv (k : Fin 15)
deriving DecidableEq

theorem sNum_lt (k : Fin 15) : sNum k < 35 := by revert k; decide
theorem rNum_lt (k : Fin 15) : rNum k < 35 := by revert k; decide

/-- The semaphores themselves, as the program spells them. -/
abbrev barS : Sem sig := (SemArray.scalar (sig.barrier 0 rfl) : Sems sig S_).sem
abbrev finS : Sem sig := cc0_scoped0.sem
def sendS (k : Fin 15) : DmaSem sig := ⟨sNum k, sNum_lt k⟩
def recvS (k : Fin 15) : DmaSem sig := ⟨rNum k, rNum_lt k⟩

/-- The semaphore of a kind. -/
def Kd.loc : Kd → SemLoc sig
  | .bar => .reg barS
  | .fin => .reg finS
  | .send k => .dma (sendS k)
  | .recv k => .dma (recvS k)

/-- The kind of each DMA semaphore, by number; the first five stage the kernel's operands. -/
def dmaKd (s : DmaSem sig) : Option Kd :=
  (![none, none, none, none, none,
    some (.send 0), some (.send 3), some (.send 7), some (.recv 0), some (.recv 3), some (.recv 7),
    some (.send 1), some (.send 4), some (.send 8), some (.send 11), some (.recv 1), some (.recv 4), some (.recv 8), some (.recv 11),
    some (.send 2), some (.send 5), some (.send 9), some (.send 12), some (.recv 2), some (.recv 5), some (.recv 9), some (.recv 12),
    some (.send 10), some (.send 13), some (.recv 10), some (.recv 13),
    some (.send 6), some (.send 14), some (.recv 6), some (.recv 14)] : Fin 35 → Option Kd) s

/-- The kind of a semaphore. -/
def kindOf : SemLoc sig → Option Kd
  | .reg s => if s = barS then some .bar else some .fin
  | .dma s => dmaKd s

theorem fin_ne_bar : (finS : Sem sig) ≠ barS := by decide

theorem kindOf_loc (κ : Kd) : kindOf κ.loc = some κ := by
  cases κ with
  | bar => rfl
  | fin => exact if_neg (t := some Kd.bar) fin_ne_bar
  | send k => revert k; decide
  | recv k => revert k; decide

theorem loc_inj : Function.Injective Kd.loc := fun a b h => by
  have := congrArg kindOf h; rw [kindOf_loc, kindOf_loc] at this; exact Option.some.inj this

/-- The cell of a kind on a device. -/
abbrev cell (c : Dev nD) (κ : Kd) : GSem nD τ sig := ((c : Thread nD τ), κ.loc)

theorem cell_inj {c c' : Dev nD} {κ κ' : Kd} (h : cell c κ = cell c' κ') : c = c' ∧ κ = κ' :=
  ⟨congrArg (fun g : GSem nD τ sig => g.1.1) h, loc_inj (congrArg Prod.snd h)⟩

/-! ## Slots -/

abbrev gM : Memref sig .tc .vmem S16x512x512 .bf16 := Memref.whole cc0_scratch0

theorem slot_inb (b : Dev nD) (a : Fin 3) : (![b.val, 0, 0] : Fin 3 → ℕ) a + S1x512x512.size a ≤ S16x512x512.size a := by
  have := b.isLt
  fin_cases a
  · show b.val + 1 ≤ 16; simp only [nD] at this; omega
  · show 0 + 512 ≤ 512; omega
  · show 0 + 512 ≤ 512; omega

/-- The rectangle of slot `b`, and the slot as the program hands it to a transfer. -/
abbrev slotRect (b : Dev nD) : Rect S16x512x512 := Rect.unit (s := S16x512x512) ![b.val, 0, 0] S1x512x512.size (slot_inb b)
abbrev slotMem (b : Dev nD) : Memref sig .tc .vmem S512x512 .bf16 :=
  (gM.slice (slotRect b) (fun _ => rfl)).squeeze S512x512 squeezes_S1x512x512_S512x512
/-- The elements of slot `b`. -/
def slotSet (b : Dev nD) : Finset S16x512x512.Idx := (slotMem b).view.set

theorem slotSet_eq (b : Dev nD) : slotSet b = (slotRect b).set := by
  show ((View.slice (View.whole cc0_scratch0) (slotRect b)).reshape S512x512 _).set = _
  rw [View.set_reshape]
  exact View.set_slice_whole cc0_scratch0 (slotRect b)

theorem mem_slotSet (b : Dev nD) (i : S16x512x512.Idx) : i ∈ slotSet b ↔ (i 0).val = b.val := by
  rw [slotSet_eq, Rect.mem_set_unit]
  constructor
  · intro h
    have h0 : b.val ≤ (i 0).val ∧ (i 0).val < b.val + 1 := h 0
    omega
  · intro h a
    fin_cases a
    · show b.val ≤ (i 0).val ∧ (i 0).val < b.val + 1; omega
    · exact ⟨Nat.zero_le _, by show (i 1).val < 0 + 512; have := (i 1).isLt; have h1 : S16x512x512.size 1 = 512 := rfl; omega⟩
    · exact ⟨Nat.zero_le _, by show (i 2).val < 0 + 512; have := (i 2).isLt; have h1 : S16x512x512.size 2 = 512 := rfl; omega⟩

theorem slot_disjoint {b b' : Dev nD} (h : b ≠ b') : Disjoint (slotSet b) (slotSet b') :=
  Finset.disjoint_left.mpr fun i hi hi' => h (Fin.ext (((mem_slotSet b i).mp hi).symm.trans ((mem_slotSet b' i).mp hi')))

theorem slot_cover : (Finset.univ : Finset (Dev nD)).biUnion slotSet = Finset.univ := by
  ext i
  simp only [Finset.mem_biUnion, Finset.mem_univ, true_and, iff_true]
  exact ⟨⟨(i 0).val, (i 0).isLt⟩, (mem_slotSet _ i).mpr rfl⟩

/-- What a transfer of a slot credits. -/
abbrev N : ℕ := (slotMem 0).view.dmaCredit
theorem N_pos : 0 < N := View.dmaCredit_pos _ (by decide)

/-! ## Contents -/

/-- The gathered buffer once every slot is filled: slot `b` holds what device `b`'s second operand holds. -/
def G : (cc0_scratch0 : Ref sig .tc).ty.Contents (Elt F) := fun i =>
  (V1 m (⟨(i 0).val, (i 0).isLt⟩ : Dev nD) main_v21 : (main_v21 : Ref sig .tc).ty.Contents (Elt F)) (fun | 0 => i 1 | 1 => i 2)

/-- The four shares a slot is held at: the first three may be lent to transfers, the last stays for reading. -/
def quarter : Fin 4 → PosShare TreeShare :=
  ![fullShare.left, fullShare.right.left, fullShare.right.right.left, fullShare.right.right.right]

/-- Slot `b` of device `c` at share `q` and contents `f`. -/
def slotPts (c b : Dev nD) (q : PosShare TreeShare) (f : (cc0_scratch0 : Ref sig .tc).ty.Contents (Elt F)) : sProp 𝕄 :=
  ((c : Thread nD τ).loc cc0_scratch0) ↦[slotSet b]{q} f

/-- Quarter `i` of the filled slot of source `a` of device `c`. -/
def piece (c : Dev nD) (x : Fin 16 × Fin 4) : sProp 𝕄 := slotPts c (slotOf c x.1) (quarter x.2) (G m)

/-! ## The schedule -/

/-- What the signal in direction `d` hands to `e`, its receiver: the slots `e` fills over there, and that over there the
    cells `e` pays are open. -/
def barPay (e : Dev nD) (d : Fin 4) : sProp 𝕄 :=
  iprop((bigSep (Finset.univ.filter fun k : Fin 15 => dir k = opp d) fun k =>
      iprop((∃ f, slotPts (dst e k) (rslot (dst e k) k) fullShare f) ∗ reached ER (cell (dst e k) (.recv k)) 0))
    ∗ reached ER (cell (nbr e (opp d)) .fin) 0)

/-- What a payment of duty `d` on a cell of kind `κ` of device `c` hands over. -/
def pay (c : Dev nD) (κ : Option Kd) (d : Fin 4) : sProp 𝕄 :=
  match κ with
  | some .bar => barPay c d
  | some .fin => iprop(emp)
  | some (.send k) => piece m c (src k, part k)
  | some (.recv k) => slotPts c (rslot c k) fullShare (G m)
  | none => iprop(emp)

def dutiesOf : Option Kd → Finset (Fin 4)
  | some .bar => Finset.univ
  | some .fin => Finset.univ
  | some (.send _) => {0}
  | some (.recv _) => {0}
  | none => ∅

def amountOf : Option Kd → ℕ
  | some .bar => 1
  | some .fin => 1
  | _ => N

/-- One round on every cell of the exchange: four units on the barriers, one slot's credit on the others. -/
def rd : Rounds.Schedule (GSem nD τ sig) (Fin 4) 𝕄 where
  duties g r := if r = 0 ∧ g.1.2 = .tc then dutiesOf (kindOf g.2) else ∅
  unitless _ := False
  amount g _ _ := amountOf (kindOf g.2)
  payload g _ d := pay m g.1.1 (kindOf g.2) d
  amount_pos g _ _ _ := by
    rcases kindOf g.2 with _ | _ | _ | _ | _
    · exact N_pos
    · exact Nat.one_pos
    · exact Nat.one_pos
    · exact N_pos
    · exact N_pos

omit [FloatOps F] in
instance slotPts_storable (c b : Dev nD) (q : PosShare TreeShare) (f : (cc0_scratch0 : Ref sig .tc).ty.Contents (Elt F)) :
    BI.Storable (upEmb : UEmb _ 𝕄) (slotPts c b q f) := by unfold slotPts; infer_instance

omit [FloatOps F] in
instance barPay_storable (e : Dev nD) (d : Fin 4) : BI.Storable (upEmb : UEmb _ 𝕄) (barPay (F := F) e d) := by unfold barPay; infer_instance

instance rd_payload_storable (g : GSem nD τ sig) (r : ℕ) (d : Fin 4) :
    BI.Storable (upEmb : UEmb _ 𝕄) ((rd m).payload g r d) := by
  show BI.Storable upEmb (pay m g.1.1 (kindOf g.2) d)
  unfold pay piece
  split <;> infer_instance

section Sched
variable (c : Dev nD) (κ : Kd)

theorem duties_cell : (rd m).duties (cell c κ) 0 = dutiesOf (some κ) := by
  have h : (0 : ℕ) = 0 ∧ (cell c κ).1.2 = .tc := ⟨rfl, rfl⟩
  exact (if_pos h : (if 0 = 0 ∧ (cell c κ).1.2 = .tc then dutiesOf (kindOf κ.loc) else ∅) = _).trans (congrArg dutiesOf (kindOf_loc κ))
theorem duties_later (g : GSem nD τ sig) : ∀ r, 1 ≤ r → (rd m).duties g r = ∅ :=
  fun r hr => if_neg fun h => by omega
theorem amount_cell (d : Fin 4) : (rd m).amount (cell c κ) 0 d = amountOf (some κ) := by
  show amountOf (kindOf κ.loc) = _; rw [kindOf_loc]
theorem payload_cell (d : Fin 4) : (rd m).payload (cell c κ) 0 d = pay m c (some κ) d := by
  show pay m c (kindOf κ.loc) d = _; rw [kindOf_loc]

/-- All the units a cell expects. -/
def expectOf : Kd → ℕ
  | .bar => 4
  | .fin => 4
  | .send _ => N
  | .recv _ => N

theorem expect_cell : (rd m).expect (cell c κ) 0 = expectOf κ := by
  unfold Schedule.expect Schedule.amountOf
  rw [duties_cell, Finset.sum_congr rfl fun d _ => amount_cell m c κ d]
  cases κ with
  | bar => rfl
  | fin => rfl
  | send k => exact Finset.sum_singleton _ _
  | recv k => exact Finset.sum_singleton _ _

theorem rest_cell : bigSep ((rd m).duties (cell c κ) 0 \ ∅) (fun d => (rd m).payload (cell c κ) 0 d)
    = bigSep (dutiesOf (some κ)) (pay m c (some κ)) := by
  rw [Finset.sdiff_empty, duties_cell, bigSep_congr fun d _ => payload_cell m c κ d]

theorem close (κ' : ℕ) (g : GSem nD τ sig) :
    iprop(cellInv ER (rd m) κ' g ∗ atPos ER g (0 + 1) ∅ 0) ⊢ (|={Set.univ}=> semVal g 0 : sProp 𝕄) :=
  Rounds.cell_close ER (rd m) (Set.mem_univ κ') id (duties_later m g)

end Sched

/-! ## Levels and what is owed -/

def L (g : GSem nD τ sig) : Finset Unit := if g.1.2 = .tc then {()} else ∅
/-- A wait is allowed while what is owed lies above the cell waited on. -/
def lvOf : Option Kd → ℕ
  | some .bar => 1
  | some .fin => 100
  | some (.send _) => 0
  | some (.recv k) => k.val + 2
  | none => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Kd) (u : Unit) : lv (cell c κ) u = lvOf (some κ) := by
  show lvOf (kindOf κ.loc) = _; rw [kindOf_loc]

/-- What device `c` owes once the first `b` signals of the barrier, the first `s` transfers and the first `e` signals of the
    last barrier are made. -/
def owed (c : Dev nD) (b s e : ℕ) : CellTallies nD τ sig Unit :=
  (∑ d : Fin 4 with b ≤ d.val, tallyAt (cell (nbr c d) .bar) () 1)
    + (∑ k : Fin 15 with s ≤ k.val, tallyAt (cell (dst c k) (.recv k)) () N)
    + (∑ d : Fin 4 with e ≤ d.val, tallyAt (cell (nbr c d) .fin) () 1)

theorem sum_from {A : Type*} [AddCommMonoid A] {n : ℕ} (f : Fin n → A) (j : Fin n) :
    ∑ i : Fin n with j.val ≤ i.val, f i = (∑ i : Fin n with j.val + 1 ≤ i.val, f i) + f j := by
  have h : (Finset.univ.filter fun i : Fin n => j.val ≤ i.val) = insert j (Finset.univ.filter fun i : Fin n => j.val + 1 ≤ i.val) := by
    ext i; simp only [Finset.mem_filter, Finset.mem_univ, true_and, Finset.mem_insert, Fin.ext_iff]; omega
  rw [h, Finset.sum_insert (by simp), add_comm]

theorem owed_bar (c : Dev nD) (d : Fin 4) (s e : ℕ) :
    owed c d.val s e = owed c (d.val + 1) s e + tallyAt (cell (nbr c d) .bar) () 1 := by
  unfold owed; rw [sum_from _ d]; ac_rfl
theorem owed_send (c : Dev nD) (b : ℕ) (k : Fin 15) (e : ℕ) :
    owed c b k.val e = owed c b (k.val + 1) e + tallyAt (cell (dst c k) (.recv k)) () N := by
  unfold owed; rw [sum_from _ k]; ac_rfl
theorem owed_fin (c : Dev nD) (b s : ℕ) (d : Fin 4) :
    owed c b s d.val = owed c b s (d.val + 1) + tallyAt (cell (nbr c d) .fin) () 1 := by
  unfold owed; rw [sum_from _ d]; ac_rfl
theorem owed_none (c : Dev nD) : owed c 4 15 4 = 0 := by
  unfold owed
  rw [Finset.filter_false_of_mem (fun d _ => by have := d.isLt; omega), Finset.filter_false_of_mem (fun d _ => by have := d.isLt; omega)]
  simp

theorem sum_tally_pos {ι : Type} (S : Finset ι) (f : ι → GSem nD τ sig) (n : ι → ℕ) (g : GSem nD τ sig) (u : Unit)
    (h : 0 < (∑ i ∈ S, tallyAt (f i) () (n i) : CellTallies nD τ sig Unit) g u) : ∃ i ∈ S, g = f i := by
  classical
  by_contra hn
  push Not at hn
  have : (∑ i ∈ S, tallyAt (f i) () (n i) : CellTallies nD τ sig Unit) g u = 0 := by
    rw [Finset.sum_apply, Finsupp.finset_sum_apply]
    exact Finset.sum_eq_zero fun i hi => by rw [tallyAt_apply, if_neg fun h' => hn i hi h'.1]
  omega

theorem owed_pos (c : Dev nD) (b s e : ℕ) (g : GSem nD τ sig) (u : Unit) (h : 0 < owed c b s e g u) :
    (∃ d : Fin 4, b ≤ d.val ∧ g = cell (nbr c d) .bar) ∨ (∃ k : Fin 15, s ≤ k.val ∧ g = cell (dst c k) (.recv k))
      ∨ (∃ d : Fin 4, e ≤ d.val ∧ g = cell (nbr c d) .fin) := by
  unfold owed at h
  rw [Pi.add_apply, Pi.add_apply, Finsupp.add_apply, Finsupp.add_apply] at h
  rcases Nat.eq_zero_or_pos ((∑ d : Fin 4 with b ≤ d.val, tallyAt (cell (nbr c d) .bar) () 1 : CellTallies nD τ sig Unit) g u) with h1 | h1
  · rcases Nat.eq_zero_or_pos ((∑ k : Fin 15 with s ≤ k.val, tallyAt (cell (dst c k) (.recv k)) () N : CellTallies nD τ sig Unit) g u) with h2 | h2
    · obtain ⟨d, hd, hg⟩ := sum_tally_pos _ _ _ g u (by omega : 0 < (∑ d : Fin 4 with e ≤ d.val, tallyAt (cell (nbr c d) .fin) () 1 : CellTallies nD τ sig Unit) g u)
      exact .inr (.inr ⟨d, (Finset.mem_filter.mp hd).2, hg⟩)
    · obtain ⟨k, hk, hg⟩ := sum_tally_pos _ _ _ g u h2
      exact .inr (.inl ⟨k, (Finset.mem_filter.mp hk).2, hg⟩)
  · obtain ⟨d, hd, hg⟩ := sum_tally_pos _ _ _ g u h1
    exact .inl ⟨d, (Finset.mem_filter.mp hd).2, hg⟩

/-- A device past its barrier signals may wait on a cell lying below the transfers it has still to start. -/
theorem mayWait (c : Dev nD) (κ : Kd) (s : ℕ) (h : lvOf (some κ) < s + 2 ∧ lvOf (some κ) < 100) :
    (levAts L lv : sProp 𝕄) ⊢ MayWait (c : Thread nD τ) κ.loc () (owed c 4 s 0) :=
  MayOwe.of_cut (L := L) (lev := lv) (lvOf (some κ)) (fun p hp => by rw [Finset.mem_singleton.mp hp, L_tc]; exact Finset.mem_singleton_self _)
    (fun g u hg => by
      rcases owed_pos c 4 s 0 g u hg with ⟨d, -, rfl⟩ | ⟨k, -, rfl⟩ | ⟨d, -, rfl⟩ <;> (rw [L_tc]; exact Finset.mem_singleton_self _))
    (fun p hp => by rw [Finset.mem_singleton.mp hp]; exact le_of_eq (lv_cell c κ ()))
    (fun g u hg => by
      rcases owed_pos c 4 s 0 g u hg with ⟨d, hd, rfl⟩ | ⟨k, hk, rfl⟩ | ⟨d, -, rfl⟩
      · have := d.isLt; omega
      · rw [lv_cell]; show _ < k.val + 2; omega
      · rw [lv_cell]; exact h.2)

end Cert.Proof
-- ==== Proof.Steps.lean ====
/- What a device holds while the exchange runs, as one bundle, and one step of the program at a time over it: a transfer
   started, a transfer received, a transfer known to be sent, a slot read. -/
module

public import proofs.«01_k».proof.Proof.Schedule

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)

/-- A program of device `c` run to the postcondition `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## All the cells -/

/-- The kinds of cells that live only while the kernel runs: all but the barrier at its start. -/
abbrev Sc : Type := Unit ⊕ Fin 15 ⊕ Fin 15
def scKd : Sc → Kd
  | .inl _ => .fin
  | .inr (.inl k) => .send k
  | .inr (.inr k) => .recv k
theorem scKd_inj : Function.Injective scKd := fun a b h => by
  rcases a with _ | a | a <;> rcases b with _ | b | b <;> simp_all [scKd]
theorem scKd_ne_bar (s : Sc) : scKd s ≠ .bar := by rcases s with _ | _ | _ <;> simp [scKd]

def barEmb : Dev nD ↪ GSem nD τ sig := ⟨fun c => cell c .bar, fun _ _ h => (cell_inj h).1⟩
def scEmb : Dev nD × Sc ↪ GSem nD τ sig :=
  ⟨fun x => cell x.1 (scKd x.2), fun _ _ h => Prod.ext (cell_inj h).1 (scKd_inj (cell_inj h).2)⟩
abbrev barCells : Finset (GSem nD τ sig) := Finset.univ.map barEmb
abbrev scCells : Finset (GSem nD τ sig) := Finset.univ.map scEmb

theorem cell_mem (c : Dev nD) (κ : Kd) : cell c κ ∈ (barCells ∪ scCells : Finset (GSem nD τ sig)) := by
  cases κ with
  | bar => exact Finset.mem_union_left _ (Finset.mem_map_of_mem barEmb (Finset.mem_univ c))
  | fin => exact Finset.mem_union_right _ (Finset.mem_map_of_mem scEmb (Finset.mem_univ (c, Sum.inl ())))
  | send k => exact Finset.mem_union_right _ (Finset.mem_map_of_mem scEmb (Finset.mem_univ (c, Sum.inr (Sum.inl k))))
  | recv k => exact Finset.mem_union_right _ (Finset.mem_map_of_mem scEmb (Finset.mem_univ (c, Sum.inr (Sum.inr k))))

/-- What every device may consult: the invariant of each cell under one map of names, and that the barriers are open. -/
def records : sProp 𝕄 :=
  iprop((bigSep (barCells ∪ scCells) fun g => cellInv ER (rd m) (K g) g) ∗ bigSep barCells fun g => reached ER g 0)
instance records_persistent : BI.Persistent (records m K) := by unfold records; infer_instance

theorem inv_at (c : Dev nD) (κ : Kd) : (records m K : sProp 𝕄) ⊢ cellInv ER (rd m) (K (cell c κ)) (cell c κ) := by
  unfold records
  exact sep_elim_left.trans (bigSep_elim (cell_mem c κ))
theorem bar_reached (c : Dev nD) : (records m K : sProp 𝕄) ⊢ reached ER (cell c .bar) 0 := by
  unfold records
  exact sep_elim_right.trans (bigSep_elim (Finset.mem_map_of_mem barEmb (Finset.mem_univ c)))

/-! ## The bundle -/

/-- A whole buffer of device `c` at contents `f`. -/
abbrev full (c : Dev nD) (b : Ref sig .tc) (f : b.ty.Contents (Elt F)) : sProp 𝕄 := ((c : Thread nD τ).loc b) ↦{fullShare} f

/-- The four operands in their staging buffers, the result's staging buffer at anything, and what is shared by all. -/
def core (c : Dev nD) : sProp 𝕄 :=
  iprop(records m K ∗ levAts L lv ∗ full c cc0_stg0_0 (V1 m c main_v19) ∗ full c cc0_stg1_0 (V1 m c main_v21)
    ∗ full c cc0_stg2_0 (V1 m c main_v16) ∗ full c cc0_stg3_0 (V1 m c main_v18) ∗ ∃ f, full c cc0_stg4_0 f)

/-- What the last barrier needs, and the first one's end. -/
def tail (c : Dev nD) : sProp 𝕄 :=
  iprop((bigSep Finset.univ fun d : Fin 4 => iprop(dutyTok ER (cell (nbr c d) .fin) 0 d ∗ reached ER (cell (nbr c d) .fin) 0))
    ∗ cred (tallyAt (cell c .fin) () 4) ∗ atPos ER (cell c .fin) 0 ∅ 0 ∗ atPos ER (cell c .bar) 1 ∅ 0)

/-- What transfer `k` takes to start beside the slot it sends. -/
def ready (c : Dev nD) (k : Fin 15) : sProp 𝕄 :=
  iprop(dutyTok ER (cell c (.send k)) 0 0 ∗ reached ER (cell c (.send k)) 0 ∗ dutyTok ER (cell (dst c k) (.recv k)) 0 0
    ∗ reached ER (cell (dst c k) (.recv k)) 0 ∗ ∃ f, slotPts (dst c k) (rslot (dst c k) k) fullShare f)

abbrev sCred (c : Dev nD) (k : Fin 15) : sProp 𝕄 := cred (tallyAt (cell c (.send k)) () N)
abbrev sPos (r : ℕ) (c : Dev nD) (k : Fin 15) : sProp 𝕄 := atPos ER (cell c (.send k)) r ∅ 0
def rWait (c : Dev nD) (k : Fin 15) : sProp 𝕄 := iprop(cred (tallyAt (cell c (.recv k)) () N) ∗ atPos ER (cell c (.recv k)) 0 ∅ 0)
abbrev rPos (c : Dev nD) (k : Fin 15) : sProp 𝕄 := atPos ER (cell c (.recv k)) 1 ∅ 0

/-- The bundle once `s` transfers are started, `n` received and `w` known to be sent. -/
def St (c : Dev nD) (s n w : ℕ) : sProp 𝕄 :=
  iprop(core m K c ∗ tail c ∗ (∃ W, owes (c : Thread nD τ) (owed c 4 s 0) W)
    ∗ (bigSep (Finset.univ.filter fun k : Fin 15 => s ≤ k.val) (ready c))
    ∗ (bigSep (Finset.univ.filter fun k : Fin 15 => w ≤ k.val ∧ k.val < s) (sCred c))
    ∗ (bigSep (Finset.univ.filter fun k : Fin 15 => w ≤ k.val) (sPos 0 c))
    ∗ (bigSep (Finset.univ.filter fun k : Fin 15 => k.val < w) (sPos 1 c))
    ∗ (bigSep (Finset.univ.filter fun k : Fin 15 => n ≤ rpos k) (rWait c))
    ∗ (bigSep (Finset.univ.filter fun k : Fin 15 => rpos k < n) (rPos c))
    ∗ bigSep (avail s n w) (piece m c))

/-! ## One family, one element set apart -/

omit [FloatOps F] in
theorem peel {ι : Type} [DecidableEq ι] {S T : Finset ι} (i : ι) (Φ : ι → sProp 𝕄) (h : S = insert i T) (hn : i ∉ T) :
    bigSep S Φ = iprop(Φ i ∗ bigSep T Φ) := by rw [h, bigSep_insert hn]; rfl

omit [FloatOps F] in
theorem peel_erase {ι : Type} [DecidableEq ι] {S : Finset ι} {i : ι} (Φ : ι → sProp 𝕄) (h : i ∈ S) :
    bigSep S Φ = iprop(Φ i ∗ bigSep (S.erase i) Φ) := by rw [bigSep_erase h]; rfl

omit [FloatOps F] in
theorem peel_union {ι : Type} [DecidableEq ι] {S T : Finset ι} (Φ : ι → sProp 𝕄) (h : Disjoint S T) :
    bigSep (S ∪ T) Φ = iprop(bigSep S Φ ∗ bigSep T Φ) := by rw [bigSep_union h]; rfl

theorem from_succ (k : Fin 15) : (Finset.univ.filter fun j : Fin 15 => k.val ≤ j.val) = insert k (Finset.univ.filter fun j : Fin 15 => k.val + 1 ≤ j.val) := by
  ext j; simp only [Finset.mem_filter, Finset.mem_univ, true_and, Finset.mem_insert, Fin.ext_iff]; omega
theorem below_succ (k : Fin 15) : (Finset.univ.filter fun j : Fin 15 => j.val < k.val + 1) = insert k (Finset.univ.filter fun j : Fin 15 => j.val < k.val) := by
  ext j; simp only [Finset.mem_filter, Finset.mem_univ, true_and, Finset.mem_insert, Fin.ext_iff]; omega
theorem between_top (k : Fin 15) (w : ℕ) (h : w ≤ k.val) : (Finset.univ.filter fun j : Fin 15 => w ≤ j.val ∧ j.val < k.val + 1)
    = insert k (Finset.univ.filter fun j : Fin 15 => w ≤ j.val ∧ j.val < k.val) := by
  ext j; simp only [Finset.mem_filter, Finset.mem_univ, true_and, Finset.mem_insert, Fin.ext_iff]; omega
theorem between_bot (k : Fin 15) (s : ℕ) (h : k.val < s) : (Finset.univ.filter fun j : Fin 15 => k.val ≤ j.val ∧ j.val < s)
    = insert k (Finset.univ.filter fun j : Fin 15 => k.val + 1 ≤ j.val ∧ j.val < s) := by
  ext j; simp only [Finset.mem_filter, Finset.mem_univ, true_and, Finset.mem_insert, Fin.ext_iff]; omega
theorem rpos_inj : Function.Injective rpos := by decide
theorem rfrom_succ (k : Fin 15) : (Finset.univ.filter fun j : Fin 15 => rpos k ≤ rpos j) = insert k (Finset.univ.filter fun j : Fin 15 => rpos k + 1 ≤ rpos j) := by
  ext j; simp only [Finset.mem_filter, Finset.mem_univ, true_and, Finset.mem_insert]
  constructor
  · intro h
    rcases Nat.eq_or_lt_of_le h with h' | h'
    · exact .inl (rpos_inj h'.symm)
    · exact .inr h'
  · rintro (rfl | h)
    · exact le_rfl
    · omega
theorem rbelow_succ (k : Fin 15) : (Finset.univ.filter fun j : Fin 15 => rpos j < rpos k + 1) = insert k (Finset.univ.filter fun j : Fin 15 => rpos j < rpos k) := by
  ext j; simp only [Finset.mem_filter, Finset.mem_univ, true_and, Finset.mem_insert]
  constructor
  · intro h
    rcases Nat.eq_or_lt_of_le (Nat.lt_succ_iff.mp h) with h' | h'
    · exact .inl (rpos_inj h')
    · exact .inr h'
  · rintro (rfl | h) <;> omega

/-! ## A transfer started -/

omit [FloatOps F] in
/-- Rewriting a slot by what the same slot of the filled buffer reads leaves the filled buffer's values on it. -/
theorem sent_pts (e b : Dev nD) (fd : (cc0_scratch0 : Ref sig .tc).ty.Contents (Elt F)) (g : (cc0_scratch0 : Ref sig .tc).ty.Contents (Elt F)) :
    (slotPts e b fullShare ((slotMem b).view.write (Elt F) fd ((slotMem b).view.read (Elt F) g) Finset.univ) : sProp 𝕄)
      = slotPts e b fullShare g := by
  unfold slotPts
  refine pointsTo_congr fun i hi => ?_
  obtain ⟨x, -, rfl⟩ := Finset.mem_map.mp (show i ∈ Finset.univ.map (slotMem b).view.emb from hi)
  rw [View.write_emb_of_mem (v := (slotMem b).view) (h := Finset.mem_univ x), View.read_apply, cast_cast, cast_eq]

/-- What transfer `k` takes of the bundle's piece and hands over, in the program's own spelling of the slot. -/
theorem step_send {s n w : ℕ} (c : Dev nD) (k : Fin 15) (hs : k.val = s) (hw : w ≤ s)
    (ha : (src k, part k) ∈ avail s n w ∧ avail (s + 1) n w = (avail s n w).erase (src k, part k))
    {n' : Dev nD} (hn : n' = dst c k) {off : Fin 3 → ℕ} (hoff : off = ![(slotOf c (src k)).val, 0, 0])
    {inb inb' : ∀ a, off a + S1x512x512.size a ≤ S16x512x512.size a} {sS sR : DmaSem sig} (hS : sS = sendS k) (hR : sR = recvS k)
    {hsc : ((gM.slice (Rect.unit (s := S16x512x512) off S1x512x512.size inb') (fun _ => rfl)).squeeze S512x512 squeezes_S1x512x512_S512x512 :
        Memref sig (Dev.tc n' : Thread nD τ).2.kind .vmem S512x512 .bf16).view.ref.isScScratch = false}
    {hsrc : ((gM.slice (Rect.unit (s := S16x512x512) off S1x512x512.size inb) (fun _ => rfl)).squeeze S512x512 squeezes_S1x512x512_S512x512).view.WordExact}
    {hdst : ((gM.slice (Rect.unit (s := S16x512x512) off S1x512x512.size inb') (fun _ => rfl)).squeeze S512x512 squeezes_S1x512x512_S512x512).view.WordExact}
    {hsem : DmaTarget.Typed .vmem (.dma sR) (.remote (Dev.tc n' : Thread nD τ)
      ((gM.slice (Rect.unit (s := S16x512x512) off S1x512x512.size inb') (fun _ => rfl)).squeeze S512x512 squeezes_S1x512x512_S512x512) (.dma sS) hsc)}
    {α : Type} {Q : α → sProp 𝕄} {kk : PUnit → Prog (TpuEff nD τ sig (Elt F) Λ₀ .tc) α} :
    St m K c s n w ⊢ iprop((St m K c (s + 1) n w -∗ Wp c (kk ⟨⟩) Q) -∗ Wp c
      (.op (.enqueueDma ((gM.slice (Rect.unit (s := S16x512x512) off S1x512x512.size inb) (fun _ => rfl)).squeeze S512x512 squeezes_S1x512x512_S512x512)
        (.remote (Dev.tc n' : Thread nD τ)
          ((gM.slice (Rect.unit (s := S16x512x512) off S1x512x512.size inb') (fun _ => rfl)).squeeze S512x512 squeezes_S1x512x512_S512x512) (.dma sS) hsc)
        (.dma sR) hsrc hdst hsem) kk) Q) := by
  subst hs hn hoff hS hR
  unfold St
  rw [ha.2, peel k (ready c) (from_succ k) (by simp), between_top k w hw,
    peel (S := insert k _) k (sCred (F := F) c) rfl (by simp), peel_erase (piece m c) ha.1]
  unfold core ready
  iintro ⟨⟨#HI, Hcore⟩, Ht, ⟨%W, HO⟩, ⟨⟨HtS, #HrS, HtR, #HrR, ⟨%fd, Hd⟩⟩, Hrest⟩, Hcr, H0, H1, Hw, Hr, ⟨Hp, Hav⟩⟩ Hk
  iapply (Rounds.wp_send_pointsTo 𝒱₀ ER (rd m) (c : Thread nD τ) none (c' := (dst c k : Thread nD τ))
      (src := slotMem (slotOf c (src k))) (dst := slotMem (slotOf c (src k)))
      (sS := .dma (sendS k)) (sem := .dma (recvS k)) (q := quarter (part k)) (fs := G m)
      (κ₁ := K (cell c (.send k))) (κ₂ := K (cell (dst c k) (.recv k)))
      (r₁ := 0) (r₂ := 0) (d₁ := 0) (d₂ := 0) (fd := fd)
      (by rw [show ((c : Thread nD τ), SemLoc.dma (sendS k)) = cell c (.send k) from rfl, duties_cell]; exact Finset.mem_singleton_self _)
      (by rw [show ((dst c k : Thread nD τ), SemLoc.dma (recvS k)) = cell (dst c k) (.recv k) from rfl, duties_cell]; exact Finset.mem_singleton_self _)
      () () N rfl (amount_cell m c (.send k) 0) (amount_cell m (dst c k) (.recv k) 0) (owed c 4 (k.val + 1) 0) (owed_send c 4 k 0) (W := W)
      (by rw [show ((c : Thread nD τ), SemLoc.dma (sendS k)) = cell c (.send k) from rfl, payload_cell]; exact BI.Entails.refl _)
      (by
        rw [show ((dst c k : Thread nD τ), SemLoc.dma (recvS k)) = cell (dst c k) (.recv k) from rfl, payload_cell]
        show _ ⊢ slotPts (dst c k) (rslot (dst c k) k) fullShare (G m)
        rw [← sent_slot]
        exact Entails.of_eq (sent_pts (dst c k) (slotOf c (src k)) fd (G m)))) $$ [Hp Hd HO HtS HtR]
  · isplitr; · iapply (inv_at m K c (.send k)); iexact HI
    isplitr; · iapply (inv_at m K (dst c k) (.recv k)); iexact HI
    isplitl [Hp]; · iapply (show piece m c (src k, part k) ⊢ (View.loc (c : Thread nD τ) (slotMem (slotOf c (src k))).view ↦[(slotMem (slotOf c (src k))).view.set]{quarter (part k)} G m) from BI.Entails.refl _); iexact Hp
    isplitl [Hd]
    · rw [← sent_slot]; iapply (show slotPts (dst c k) (slotOf c (src k)) fullShare fd ⊢ (View.loc (dst c k : Thread nD τ) (slotMem (slotOf c (src k))).view ↦[(slotMem (slotOf c (src k))).view.set]{fullShare} fd) from BI.Entails.refl _); iexact Hd
    isplitl [HO]; · iexact HO
    isplitl [HtS]; · iexact HtS
    isplitr; · iexact HrS
    isplitl [HtR]; · iexact HtR
    iexact HrR
  iintro ⟨HcS, HO⟩
  iapply Hk
  isplitl [Hcore]
  · isplitr; · iexact HI
    iexact Hcore
  isplitl [Ht]; · iexact Ht
  isplitl [HO]; · iexists W; iexact HO
  isplitl [Hrest]; · iexact Hrest
  isplitl [HcS Hcr]
  · isplitl [HcS]; · iexact HcS
    iexact Hcr
  isplitl [H0]; · iexact H0
  isplitl [H1]; · iexact H1
  isplitl [Hw]; · iexact Hw
  isplitl [Hr]; · iexact Hr
  iexact Hav

/-! ## A slot in quarters -/

omit [FloatOps F] in
theorem slot_quarters (c b : Dev nD) (f : (cc0_scratch0 : Ref sig .tc).ty.Contents (Elt F)) :
    (slotPts c b fullShare f : sProp 𝕄) ⊣⊢ bigSep Finset.univ fun i : Fin 4 => slotPts c b (quarter i) f := by
  have h1 : (slotPts c b fullShare f : sProp 𝕄) ⊣⊢ iprop(slotPts c b fullShare.left f ∗ slotPts c b fullShare.right f) :=
    pointsTo_share (PosShare.mem_left_op_right _)
  have h2 : (slotPts c b fullShare.right f : sProp 𝕄) ⊣⊢ iprop(slotPts c b fullShare.right.left f ∗ slotPts c b fullShare.right.right f) :=
    pointsTo_share (PosShare.mem_left_op_right _)
  have h3 : (slotPts c b fullShare.right.right f : sProp 𝕄) ⊣⊢ iprop(slotPts c b fullShare.right.right.left f ∗ slotPts c b fullShare.right.right.right f) :=
    pointsTo_share (PosShare.mem_left_op_right _)
  have e : (bigSep Finset.univ fun i : Fin 4 => slotPts c b (quarter i) f : sProp 𝕄)
      = iprop(slotPts c b fullShare.left f ∗ slotPts c b fullShare.right.left f ∗ slotPts c b fullShare.right.right.left f
        ∗ slotPts c b fullShare.right.right.right f) := by
    rw [peel (S := Finset.univ) (T := {1, 2, 3}) (0 : Fin 4) _ (by decide) (by decide), peel (S := {1, 2, 3}) (T := {2, 3}) (1 : Fin 4) _ rfl (by decide),
      peel (S := {2, 3}) (T := {3}) (2 : Fin 4) _ rfl (by decide), bigSep_singleton]
    rfl
  rw [e]
  constructor
  · iintro H
    ihave ⟨Ha, H⟩ := h1.1 $$ H
    ihave ⟨Hb, H⟩ := h2.1 $$ H
    ihave ⟨Hc, H⟩ := h3.1 $$ H
    isplitl [Ha]; · iexact Ha
    isplitl [Hb]; · iexact Hb
    isplitl [Hc]; · iexact Hc
    iexact H
  · iintro ⟨Ha, Hb, Hc, Hd⟩
    iapply h1.2
    isplitl [Ha]; · iexact Ha
    iapply h2.2
    isplitl [Hb]; · iexact Hb
    iapply h3.2
    isplitl [Hc]; · iexact Hc
    iexact Hd

/-- The four quarters of the slot of source `a`. -/
def quarters (a : Fin 16) : Finset (Fin 16 × Fin 4) := Finset.univ.map ⟨fun i => (a, i), fun _ _ h => (Prod.ext_iff.mp h).2⟩
theorem quarters_pieces (c : Dev nD) (a : Fin 16) :
    (slotPts c (slotOf c a) fullShare (G m) : sProp 𝕄) ⊣⊢ bigSep (quarters a) (piece m c) := by
  rw [quarters, bigSep_map]
  exact slot_quarters c (slotOf c a) (G m)

/-! ## A transfer received, and one known to be sent -/

theorem recv_rest (c : Dev nD) (k : Fin 15) :
    bigSep ((rd m).duties ((c : Thread nD τ), SemLoc.dma (recvS k)) 0 \ ∅) (fun d => (rd m).payload ((c : Thread nD τ), SemLoc.dma (recvS k)) 0 d) ⊢ (slotPts c (slotOf c k.castSucc) fullShare (G m) : sProp 𝕄) := by
  rw [show ((c : Thread nD τ), SemLoc.dma (recvS k)) = cell c (.recv k) from rfl, rest_cell]; exact Entails.of_eq bigSep_singleton
theorem send_rest (c : Dev nD) (k : Fin 15) :
    bigSep ((rd m).duties ((c : Thread nD τ), SemLoc.dma (sendS k)) 0 \ ∅) (fun d => (rd m).payload ((c : Thread nD τ), SemLoc.dma (sendS k)) 0 d) ⊢ (piece m c (src k, part k) : sProp 𝕄) := by
  rw [show ((c : Thread nD τ), SemLoc.dma (sendS k)) = cell c (.send k) from rfl, rest_cell]; exact Entails.of_eq bigSep_singleton

theorem step_recv {s n w : ℕ} (c : Dev nD) (k : Fin 15) (hn : rpos k = n) (hk : k.val < s)
    (ha : avail s (n + 1) w = avail s n w ∪ quarters k.castSucc ∧ Disjoint (avail s n w) (quarters k.castSucc))
    {sR : DmaSem sig} (hR : sR = recvS k) {off : Fin 3 → ℕ} {inb inb' : ∀ a, off a + S1x512x512.size a ≤ S16x512x512.size a}
    {hsrc : ((gM.slice (Rect.unit (s := S16x512x512) off S1x512x512.size inb) (fun _ => rfl)).squeeze S512x512 squeezes_S1x512x512_S512x512).view.WordExact}
    {hdst : ((gM.slice (Rect.unit (s := S16x512x512) off S1x512x512.size inb') (fun _ => rfl)).squeeze S512x512 squeezes_S1x512x512_S512x512).view.WordExact}
    {α : Type} {Q : α → sProp 𝕄} {kk : PUnit → Prog (TpuEff nD τ sig (Elt F) Λ₀ .tc) α} :
    St m K c s n w ⊢ iprop((St m K c s (n + 1) w -∗ Wp c (kk ⟨⟩) Q) -∗ Wp c
      (.op (.waitDma2 sR ((gM.slice (Rect.unit (s := S16x512x512) off S1x512x512.size inb) (fun _ => rfl)).squeeze S512x512 squeezes_S1x512x512_S512x512)
          ((gM.slice (Rect.unit (s := S16x512x512) off S1x512x512.size inb') (fun _ => rfl)).squeeze S512x512 squeezes_S1x512x512_S512x512) hsrc hdst) kk) Q) := by
  subst hn hR
  unfold St
  rw [ha.1, peel_union (piece m c) ha.2, peel k (rWait c) (rfrom_succ k) (by simp), rbelow_succ k, peel (S := insert k _) k (rPos (F := F) c) rfl (by simp)]
  unfold core rWait
  iintro ⟨⟨#HI, #Hlev, Hcore⟩, Ht, ⟨%W, HO⟩, Hrest, Hcr, H0, H1, ⟨⟨HcR, HaR⟩, Hw⟩, Hr, Hav⟩ Hk
  iapply (Rounds.wp_wait_rest_token 𝒱₀ ER (rd m) (c : Thread nD τ) none (κ := K (cell c (.recv k)))
      (wpE_waitDma2_eq (sem := recvS k)
        (src := (gM.slice (Rect.unit (s := S16x512x512) off S1x512x512.size inb) (fun _ => rfl)).squeeze S512x512 squeezes_S1x512x512_S512x512)
        (dst := (gM.slice (Rect.unit (s := S16x512x512) off S1x512x512.size inb') (fun _ => rfl)).squeeze S512x512 squeezes_S1x512x512_S512x512) 𝒱₀ (c : Thread nD τ) none Set.univ)
      (Set.mem_univ _) () (O := owed c 4 s 0) (W := W) (R := 0) (m := 0) (T := ∅)
      (by rw [show ((c : Thread nD τ), SemLoc.dma (recvS k)) = cell c (.recv k) from rfl, expect_cell]; exact Nat.zero_add _)) $$ [HcR HaR HO]
  · isplitr; · iapply (inv_at m K c (.recv k)); iexact HI
    isplitl [HcR]; · iexact HcR
    isplitl [HO]; · iexact HO
    isplitr; · iapply (mayWait (F := F) c (.recv k) s (by show k.val + 2 < s + 2 ∧ k.val + 2 < 100; omega)); iexact Hlev
    iexact HaR
  iintro ⟨HO, HaR, _, Hpay⟩
  ihave Hpay := recv_rest m c k $$ Hpay
  ihave Hpay := (quarters_pieces m c k.castSucc).1 $$ Hpay
  iapply Hk
  isplitl [Hcore]
  · isplitr; · iexact HI
    isplitr; · iexact Hlev
    iexact Hcore
  isplitl [Ht]; · iexact Ht
  isplitl [HO]; · iexists (insert (.dma (recvS k), ()) W); iexact HO
  isplitl [Hrest]; · iexact Hrest
  isplitl [Hcr]; · iexact Hcr
  isplitl [H0]; · iexact H0
  isplitl [H1]; · iexact H1
  isplitl [Hw]; · iexact Hw
  isplitl [HaR Hr]
  · isplitl [HaR]; · iexact HaR
    iexact Hr
  isplitl [Hav]; · iexact Hav
  iexact Hpay

theorem step_sent {s n w : ℕ} (c : Dev nD) (k : Fin 15) (hw : k.val = w) (hk : k.val < s)
    (ha : avail s n (w + 1) = insert (src k, part k) (avail s n w) ∧ (src k, part k) ∉ avail s n w)
    {sS : DmaSem sig} (hS : sS = sendS k) {off : Fin 3 → ℕ} {inb inb' : ∀ a, off a + S1x512x512.size a ≤ S16x512x512.size a}
    {hsrc : ((gM.slice (Rect.unit (s := S16x512x512) off S1x512x512.size inb) (fun _ => rfl)).squeeze S512x512 squeezes_S1x512x512_S512x512).view.WordExact}
    {hdst : ((gM.slice (Rect.unit (s := S16x512x512) off S1x512x512.size inb') (fun _ => rfl)).squeeze S512x512 squeezes_S1x512x512_S512x512).view.WordExact}
    {α : Type} {Q : α → sProp 𝕄} {kk : PUnit → Prog (TpuEff nD τ sig (Elt F) Λ₀ .tc) α} :
    St m K c s n w ⊢ iprop((St m K c s n (w + 1) -∗ Wp c (kk ⟨⟩) Q) -∗ Wp c
      (.op (.waitDma2 sS ((gM.slice (Rect.unit (s := S16x512x512) off S1x512x512.size inb) (fun _ => rfl)).squeeze S512x512 squeezes_S1x512x512_S512x512)
          ((gM.slice (Rect.unit (s := S16x512x512) off S1x512x512.size inb') (fun _ => rfl)).squeeze S512x512 squeezes_S1x512x512_S512x512) hsrc hdst) kk) Q) := by
  subst hw hS
  unfold St
  rw [ha.1, peel (S := insert (src k, part k) _) (src k, part k) (piece m c) rfl ha.2, between_bot k s hk, peel (S := insert k _) k (sCred (F := F) c) rfl (by simp),
    from_succ k, peel (S := insert k _) k (sPos (F := F) 0 c) rfl (by simp), below_succ k, peel (S := insert k _) k (sPos (F := F) 1 c) rfl (by simp)]
  unfold core
  iintro ⟨⟨#HI, #Hlev, Hcore⟩, Ht, ⟨%W, HO⟩, Hrest, ⟨HcR, Hcr⟩, ⟨HaR, H0⟩, H1, Hw, Hr, Hav⟩ Hk
  iapply (Rounds.wp_wait_rest_token 𝒱₀ ER (rd m) (c : Thread nD τ) none (κ := K (cell c (.send k)))
      (wpE_waitDma2_eq (sem := sendS k)
        (src := (gM.slice (Rect.unit (s := S16x512x512) off S1x512x512.size inb) (fun _ => rfl)).squeeze S512x512 squeezes_S1x512x512_S512x512)
        (dst := (gM.slice (Rect.unit (s := S16x512x512) off S1x512x512.size inb') (fun _ => rfl)).squeeze S512x512 squeezes_S1x512x512_S512x512) 𝒱₀ (c : Thread nD τ) none Set.univ)
      (Set.mem_univ _) () (O := owed c 4 s 0) (W := W) (R := 0) (m := 0) (T := ∅)
      (by rw [show ((c : Thread nD τ), SemLoc.dma (sendS k)) = cell c (.send k) from rfl, expect_cell]; exact Nat.zero_add _)) $$ [HcR HaR HO]
  · isplitr; · iapply (inv_at m K c (.send k)); iexact HI
    isplitl [HcR]; · iexact HcR
    isplitl [HO]; · iexact HO
    isplitr; · iapply (mayWait (F := F) c (.send k) s (by show 0 < s + 2 ∧ 0 < 100; omega)); iexact Hlev
    iexact HaR
  iintro ⟨HO, HaR, _, Hpay⟩
  ihave Hpay := send_rest m c k $$ Hpay
  iapply Hk
  isplitl [Hcore]
  · isplitr; · iexact HI
    isplitr; · iexact Hlev
    iexact Hcore
  isplitl [Ht]; · iexact Ht
  isplitl [HO]; · iexists (insert (.dma (sendS k), ()) W); iexact HO
  isplitl [Hrest]; · iexact Hrest
  isplitl [Hcr]; · iexact Hcr
  isplitl [H0]; · iexact H0
  isplitl [HaR H1]
  · isplitl [HaR]; · iexact HaR
    iexact H1
  isplitl [Hw]; · iexact Hw
  isplitl [Hr]; · iexact Hr
  isplitl [Hpay]; · iexact Hpay
  iexact Hav

/-! ## Reads -/

/-- What a read of the slot of source `a` gives. -/
def blkAt (c : Dev nD) (a : Fin 16) : Vec F S1x512x512 .bf16 := gM.view.readAt (Elt F) (slotRect (slotOf c a)).toLoadRect (G m)

theorem heads_inb (b : Dev nD) : ∀ a, (![8 * b.val, 0, 0] : Fin 3 → ℕ) a + S8x128x64.size a ≤ S128x128x64.size a := by
  revert b; decide
/-- The eight rows of the third operand that go with source `a`, and of the fourth. -/
def kAt (c : Dev nD) (a : Fin 16) : Vec F S8x128x64 .bf16 :=
  (Memref.whole cc0_stg2_0).view.readAt (Elt F) (Rect.unit (s := S128x128x64) ![8 * (slotOf c a).val, 0, 0] S8x128x64.size (heads_inb _)).toLoadRect (V1 m c main_v16)
def vAt (c : Dev nD) (a : Fin 16) : Vec F S8x128x64 .bf16 :=
  (Memref.whole cc0_stg3_0).view.readAt (Elt F) (Rect.unit (s := S128x128x64) ![8 * (slotOf c a).val, 0, 0] S8x128x64.size (heads_inb _)).toLoadRect (V1 m c main_v18)

theorem slot_reads (b : Dev nD) : gM.view.setOn (slotRect b).toLoadRect.set ⊆ slotSet b := by
  rw [slotSet_eq]
  exact ((View.set_slice gM.view (slotRect b)).symm.trans (View.set_slice_whole cc0_scratch0 (slotRect b))).le

theorem step_slot {s n w : ℕ} (c : Dev nD) (a : Fin 16) (ha : (a, (3 : Fin 4)) ∈ avail s n w) {off : Fin 3 → ℕ}
    (hoff : off = ![(slotOf c a).val, 0, 0]) {inb : ∀ a, off a + S1x512x512.size a ≤ S16x512x512.size a}
    {hl : gM.view.LoadsAt (Rect.unit (s := S16x512x512) off S1x512x512.size inb).toLoadRect}
    {α : Type} {Q : α → sProp 𝕄} {kk : (S1x512x512.Idx → Elt F .bf16) → Prog (TpuEff nD τ sig (Elt F) Λ₀ .tc) α} :
    St m K c s n w ⊢ iprop((St m K c s n w -∗ Wp c (kk (blkAt m c a)) Q) -∗ Wp c
      (.op (.load (cs := .vmem) gM (Rect.unit (s := S16x512x512) off S1x512x512.size inb).toLoadRect hl) kk) Q) := by
  subst hoff
  unfold St
  rw [peel_erase (piece m c) ha]
  iintro ⟨Hc, Ht, HO, Hrest, Hcr, H0, H1, Hw, Hr, ⟨Hp, Hav⟩⟩ Hk
  iapply (wp_load 𝒱₀ (c : Thread nD τ) none Set.univ (m := gM) (S := slotSet (slotOf c a)) (q := quarter 3) (f := G m)
    (r := (slotRect (slotOf c a)).toLoadRect) (hl := hl) (k := kk) (Q := Q) (slot_reads (slotOf c a))) $$ [Hp]
  · iapply (show piece m c (a, 3) ⊢ (gM.view.loc (c : Thread nD τ) ↦[slotSet (slotOf c a)]{quarter 3} G m) from BI.Entails.refl _); iexact Hp
  iintro Hp
  iapply Hk
  isplitl [Hc]; · iexact Hc
  isplitl [Ht]; · iexact Ht
  isplitl [HO]; · iexact HO
  isplitl [Hrest]; · iexact Hrest
  isplitl [Hcr]; · iexact Hcr
  isplitl [H0]; · iexact H0
  isplitl [H1]; · iexact H1
  isplitl [Hw]; · iexact Hw
  isplitl [Hr]; · iexact Hr
  isplitl [Hp]
  · iapply (show (gM.view.loc (c : Thread nD τ) ↦[slotSet (slotOf c a)]{quarter 3} G m) ⊢ piece m c (a, 3) from BI.Entails.refl _); iexact Hp
  iexact Hav

/-- The third operand set apart from the bundle, and back. -/
theorem St_k {s n w : ℕ} (c : Dev nD) : St m K c s n w ⊢ iprop(full c cc0_stg2_0 (V1 m c main_v16) ∗ (full c cc0_stg2_0 (V1 m c main_v16) -∗ St m K c s n w)) := by
  unfold St core
  iintro ⟨⟨HI, Hlev, Hx, Hb, Hk, Hv, Ho⟩, Hrest⟩
  isplitl [Hk]; · iexact Hk
  iintro Hk
  isplitr [Hrest]
  · isplitl [HI]; · iexact HI
    isplitl [Hlev]; · iexact Hlev
    isplitl [Hx]; · iexact Hx
    isplitl [Hb]; · iexact Hb
    isplitl [Hk]; · iexact Hk
    isplitl [Hv]; · iexact Hv
    iexact Ho
  iexact Hrest
theorem St_v {s n w : ℕ} (c : Dev nD) : St m K c s n w ⊢ iprop(full c cc0_stg3_0 (V1 m c main_v18) ∗ (full c cc0_stg3_0 (V1 m c main_v18) -∗ St m K c s n w)) := by
  unfold St core
  iintro ⟨⟨HI, Hlev, Hx, Hb, Hk, Hv, Ho⟩, Hrest⟩
  isplitl [Hv]; · iexact Hv
  iintro Hv
  isplitr [Hrest]
  · isplitl [HI]; · iexact HI
    isplitl [Hlev]; · iexact Hlev
    isplitl [Hx]; · iexact Hx
    isplitl [Hb]; · iexact Hb
    isplitl [Hk]; · iexact Hk
    isplitl [Hv]; · iexact Hv
    iexact Ho
  iexact Hrest

theorem step_k {s n w : ℕ} (c : Dev nD) (a : Fin 16) {off : Fin 3 → ℕ}
    (hoff : off = ![8 * (slotOf c a).val, 0, 0]) {inb : ∀ a, off a + S8x128x64.size a ≤ S128x128x64.size a}
    {hl : (Memref.whole cc0_stg2_0).view.LoadsAt (Rect.unit (s := S128x128x64) off S8x128x64.size inb).toLoadRect}
    {α : Type} {Q : α → sProp 𝕄} {kk : (S8x128x64.Idx → Elt F .bf16) → Prog (TpuEff nD τ sig (Elt F) Λ₀ .tc) α} :
    St m K c s n w ⊢ iprop((St m K c s n w -∗ Wp c (kk (kAt m c a)) Q) -∗ Wp c
      (.op (.load (cs := .vmem) (Memref.whole cc0_stg2_0) (Rect.unit (s := S128x128x64) off S8x128x64.size inb).toLoadRect hl) kk) Q) := by
  subst hoff
  refine (St_k m K c).trans ?_
  iintro ⟨Hx, Hrest⟩ Hk
  iapply (wp_load 𝒱₀ (c : Thread nD τ) none Set.univ (m := Memref.whole cc0_stg2_0) (S := Finset.univ) (hl := hl) (k := kk) (Q := Q) (Finset.subset_univ _)) $$ Hx
  iintro Hx
  iapply Hk
  iapply Hrest
  iexact Hx
theorem step_v {s n w : ℕ} (c : Dev nD) (a : Fin 16) {off : Fin 3 → ℕ}
    (hoff : off = ![8 * (slotOf c a).val, 0, 0]) {inb : ∀ a, off a + S8x128x64.size a ≤ S128x128x64.size a}
    {hl : (Memref.whole cc0_stg3_0).view.LoadsAt (Rect.unit (s := S128x128x64) off S8x128x64.size inb).toLoadRect}
    {α : Type} {Q : α → sProp 𝕄} {kk : (S8x128x64.Idx → Elt F .bf16) → Prog (TpuEff nD τ sig (Elt F) Λ₀ .tc) α} :
    St m K c s n w ⊢ iprop((St m K c s n w -∗ Wp c (kk (vAt m c a)) Q) -∗ Wp c
      (.op (.load (cs := .vmem) (Memref.whole cc0_stg3_0) (Rect.unit (s := S128x128x64) off S8x128x64.size inb).toLoadRect hl) kk) Q) := by
  subst hoff
  refine (St_v m K c).trans ?_
  iintro ⟨Hx, Hrest⟩ Hk
  iapply (wp_load 𝒱₀ (c : Thread nD τ) none Set.univ (m := Memref.whole cc0_stg3_0) (S := Finset.univ) (hl := hl) (k := kk) (Q := Q) (Finset.subset_univ _)) $$ Hx
  iintro Hx
  iapply Hk
  iapply Hrest
  iexact Hx

/-- One step, then the rest from the bundle it leaves. -/
theorem next {P P' A B : sProp 𝕄} (h : P ⊢ iprop((P' -∗ A) -∗ B)) (h' : P' ⊢ A) : P ⊢ B := by
  refine h.trans ?_
  iintro H
  iapply H
  iintro Hp
  iapply h'
  iexact Hp

end Cert.Proof
-- ==== Proof.Body.lean ====
/- The body's parts, each as a run from one bundle to the next. -/
module

public import proofs.«01_k».proof.Proof.Steps

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)

/-- A part of the body at the buffers and semaphores the kernel is called with. -/
abbrev onArgs {β : Type*} (f : (arg0 : Memref sig .tc .vmem S256x512 .bf16) → arg0.IsWhole → (arg1 : Memref sig .tc .vmem S512x512 .bf16) → arg1.IsWhole
    → (arg2 : Memref sig .tc .vmem S128x128x64 .bf16) → arg2.IsWhole → (arg3 : Memref sig .tc .vmem S128x128x64 .bf16) → arg3.IsWhole
    → (arg4 : Memref sig .tc .vmem S256x512 .f32) → arg4.IsWhole → (arg5 : Memref sig .tc .vmem S16x512x512 .bf16) → arg5.IsWhole
    → DmaSems sig S3 → DmaSems sig S3 → DmaSems sig S4 → DmaSems sig S4 → DmaSems sig S4 → DmaSems sig S4
    → DmaSems sig S2 → DmaSems sig S2 → DmaSems sig S2 → DmaSems sig S2 → Sems sig S_ → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    cc0_scratch1 cc0_scratch2 cc0_scratch3 cc0_scratch4 cc0_scratch5 cc0_scratch6 cc0_scratch7 cc0_scratch8 cc0_scratch9 cc0_scratch10 cc0_scoped0

variable (c : Dev nD)

theorem part4 (v2 v7 v10 : BitVec 32) (v32 : FVec F S256x512 .bf16) {Q : _ → sProp 𝕄}
    (hQ : St m K c 3 0 0 ⊢ Q ⟨k0_pay8 (blkAt m c 15), k0_pay9 v32 (blkAt m c 15), 8#32⟩) :
    St m K c 0 0 0 ⊢ Wp c (onArgs (k0_part4 (F := F)) c v2 v7 v10 v32) Q := by
  rw [k0_part4_eq_skeleton]
  unfold onArgs k0_part4_skel
  simp only [Prog.lift, Prog.bind_op, Prog.bind_ret, Prog.pure_eq_ret]
  refine next (step_send m K c 0 rfl (by decide) (by decide +kernel) (dev5 c) (off2 c) rfl rfl) ?_
  refine next (step_send m K c 1 rfl (by decide) (by decide +kernel) (dev6 c) (off2 c) rfl rfl) ?_
  refine next (step_send m K c 2 rfl (by decide) (by decide +kernel) (dev7 c) (off2 c) rfl rfl) ?_
  refine next (step_slot m K c 15 (by decide +kernel) (off1 c)) ?_
  exact hQ.trans (le_wp_ret _ _ _ _ _)

theorem part5 (v2 v7 : BitVec 32) (v106 : IVec S128x128 1) (v142 : FVec F S256x512 .bf16) (v147 : FVec F S8x128x64 .bf16) (c8 : BitVec 32) {Q : _ → sProp 𝕄}
    (hQ : ∀ v182, St m K c 3 0 0 ⊢ Q ⟨k0_pay10 v106 v142 v147 (kAt m c 15) (vAt m c 15), v182⟩) :
    St m K c 3 0 0 ⊢ Wp c (onArgs (k0_part5 (F := F)) c v2 v7 v106 v142 v147 c8) Q := by
  rw [k0_part5_eq_skeleton]
  unfold onArgs k0_part5_skel
  simp only [Prog.lift, Prog.bind_op, Prog.bind_ret, Prog.pure_eq_ret]
  refine next (step_k m K c 15 (off3 c)) ?_
  refine next (step_v m K c 15 (off3 c)) ?_
  exact (hQ _).trans (le_wp_ret _ _ _ _ _)

theorem part6 (v7 v10 v12 : BitVec 32) {Q : _ → sProp 𝕄}
    (hQ : St m K c 5 1 0 ⊢ Q ⟨⟩) :
    St m K c 3 0 0 ⊢ Wp c (onArgs (k0_part6 (F := F)) c v7 v10 v12) Q := by
  rw [k0_part6_eq_skeleton]
  unfold onArgs k0_part6_skel
  simp only [Prog.lift, Prog.bind_op, Prog.bind_ret, Prog.pure_eq_ret]
  refine next (step_recv m K c 0 rfl (by decide) (by decide +kernel) rfl) ?_
  refine next (step_send m K c 3 rfl (by decide) (by decide +kernel) (dev8 c) (off4 c 0) rfl rfl) ?_
  refine next (step_send m K c 4 rfl (by decide) (by decide +kernel) (dev9 c) (off4 c 0) rfl rfl) ?_
  exact hQ.trans (le_wp_ret _ _ _ _ _)

theorem part7 (v7 v10 : BitVec 32) {Q : _ → sProp 𝕄}
    (hQ : ∀ v223 v234, St m K c 6 3 0 ⊢ Q ⟨v223, v234⟩) :
    St m K c 5 1 0 ⊢ Wp c (onArgs (k0_part7 (F := F)) c v7 v10) Q := by
  rw [k0_part7_eq_skeleton]
  unfold onArgs k0_part7_skel
  simp only [Prog.lift, Prog.bind_op, Prog.bind_ret, Prog.pure_eq_ret]
  refine next (step_send m K c 5 rfl (by decide) (by decide +kernel) (dev10 c) (off4 c 0) rfl rfl) ?_
  refine next (step_recv m K c 1 rfl (by decide) (by decide +kernel) rfl) ?_
  refine next (step_recv m K c 2 rfl (by decide) (by decide +kernel) rfl) ?_
  exact (hQ _ _).trans (le_wp_ret _ _ _ _ _)

theorem part8 (v32 : FVec F S256x512 .bf16) (v106 : IVec S128x128 1) (v182 : BitVec 32) {Q : _ → sProp 𝕄}
    (hQ : St m K c 7 3 0 ⊢ Q ⟨k0_pay12 (blkAt m c 0), k0_pay13 (vAt m c 0), k0_pay14 v32 v106 (blkAt m c 0) (kAt m c 0)⟩) :
    St m K c 6 3 0 ⊢ Wp c (onArgs (k0_part8 (F := F)) c v32 v106 v182) Q := by
  rw [k0_part8_eq_skeleton]
  unfold onArgs k0_part8_skel
  simp only [Prog.lift, Prog.bind_op, Prog.bind_ret, Prog.pure_eq_ret]
  refine next (step_send m K c 6 rfl (by decide) (by decide +kernel) (dev11 c) (off5 c 0 0) rfl rfl) ?_
  refine next (step_slot m K c 0 (by decide +kernel) (off6 c 0)) ?_
  refine next (step_k m K c 0 (off7 c 0)) ?_
  refine next (step_v m K c 0 (off7 c 0)) ?_
  exact hQ.trans (le_wp_ret _ _ _ _ _)

theorem part9 (v32 : FVec F S256x512 .bf16) (v106 : IVec S128x128 1) (v179 : FVec F S256x512 .f32) (v223 : BitVec 32) (v258 : FVec F S256x512 .bf16) (v271 : FVec F S8x128x64 .bf16) (v289 : FVec F S8x128x128 .bf16) {Q : _ → sProp 𝕄}
    (hQ : St m K c 7 3 0 ⊢ Q ⟨k0_pay15 v179 v258 v271 v289, k0_pay17 (blkAt m c 1), k0_pay18 (vAt m c 1), k0_pay19 v32 v106 (blkAt m c 1) (kAt m c 1)⟩) :
    St m K c 7 3 0 ⊢ Wp c (onArgs (k0_part9 (F := F)) c v32 v106 v179 v223 v258 v271 v289) Q := by
  rw [k0_part9_eq_skeleton]
  unfold onArgs k0_part9_skel
  simp only [Prog.lift, Prog.bind_op, Prog.bind_ret, Prog.pure_eq_ret]
  refine next (step_slot m K c 1 (by decide +kernel) (off8 c 2 0)) ?_
  refine next (step_k m K c 1 (off9 c 2 0)) ?_
  refine next (step_v m K c 1 (off9 c 2 0)) ?_
  exact hQ.trans (le_wp_ret _ _ _ _ _)

theorem part10 (v32 : FVec F S256x512 .bf16) (v106 : IVec S128x128 1) (v234 : BitVec 32) (v296 : FVec F S256x512 .f32) (v302 : FVec F S256x512 .bf16) (v315 : FVec F S8x128x64 .bf16) (v333 : FVec F S8x128x128 .bf16) {Q : _ → sProp 𝕄}
    (hQ : St m K c 7 3 0 ⊢ Q ⟨k0_pay20 v296 v302 v315 v333, k0_pay22 (blkAt m c 2), k0_pay23 (vAt m c 2), k0_pay24 v32 v106 (blkAt m c 2) (kAt m c 2)⟩) :
    St m K c 7 3 0 ⊢ Wp c (onArgs (k0_part10 (F := F)) c v32 v106 v234 v296 v302 v315 v333) Q := by
  rw [k0_part10_eq_skeleton]
  unfold onArgs k0_part10_skel
  simp only [Prog.lift, Prog.bind_op, Prog.bind_ret, Prog.pure_eq_ret]
  refine next (step_slot m K c 2 (by decide +kernel) (off8 c 0 0)) ?_
  refine next (step_k m K c 2 (off9 c 0 0)) ?_
  refine next (step_v m K c 2 (off9 c 0 0)) ?_
  exact hQ.trans (le_wp_ret _ _ _ _ _)

theorem part11 (v2 v7 v12 : BitVec 32) (v340 : FVec F S256x512 .f32) (v346 : FVec F S256x512 .bf16) (v359 : FVec F S8x128x64 .bf16) (v377 : FVec F S8x128x128 .bf16) {Q : _ → sProp 𝕄}
    (hQ : ∀ v387, St m K c 8 4 0 ⊢ Q ⟨k0_pay25 v340 v346 v359 v377, v387⟩) :
    St m K c 7 3 0 ⊢ Wp c (onArgs (k0_part11 (F := F)) c v2 v7 v12 v340 v346 v359 v377) Q := by
  rw [k0_part11_eq_skeleton]
  unfold onArgs k0_part11_skel
  simp only [Prog.lift, Prog.bind_op, Prog.bind_ret, Prog.pure_eq_ret]
  refine next (step_recv m K c 3 rfl (by decide) (by decide +kernel) rfl) ?_
  refine next (step_send m K c 7 rfl (by decide) (by decide +kernel) (dev12 c) (off4 c 1) rfl rfl) ?_
  exact (hQ _).trans (le_wp_ret _ _ _ _ _)

theorem part12 (v7 v10 : BitVec 32) {Q : _ → sProp 𝕄}
    (hQ : ∀ v428, St m K c 10 5 0 ⊢ Q v428) :
    St m K c 8 4 0 ⊢ Wp c (onArgs (k0_part12 (F := F)) c v7 v10) Q := by
  rw [k0_part12_eq_skeleton]
  unfold onArgs k0_part12_skel
  simp only [Prog.lift, Prog.bind_op, Prog.bind_ret, Prog.pure_eq_ret]
  refine next (step_send m K c 8 rfl (by decide) (by decide +kernel) (dev13 c) (off4 c 1) rfl rfl) ?_
  refine next (step_send m K c 9 rfl (by decide) (by decide +kernel) (dev14 c) (off4 c 1) rfl rfl) ?_
  refine next (step_recv m K c 4 rfl (by decide) (by decide +kernel) rfl) ?_
  exact (hQ _).trans (le_wp_ret _ _ _ _ _)

theorem part13 (v7 : BitVec 32) (v32 : FVec F S256x512 .bf16) (v387 : BitVec 32) {Q : _ → sProp 𝕄}
    (hQ : ∀ v449, St m K c 11 6 0 ⊢ Q ⟨v449, k0_pay27 (blkAt m c 3), k0_pay28 v32 (blkAt m c 3), k0_pay29 (kAt m c 3)⟩) :
    St m K c 10 5 0 ⊢ Wp c (onArgs (k0_part13 (F := F)) c v7 v32 v387) Q := by
  rw [k0_part13_eq_skeleton]
  unfold onArgs k0_part13_skel
  simp only [Prog.lift, Prog.bind_op, Prog.bind_ret, Prog.pure_eq_ret]
  refine next (step_send m K c 10 rfl (by decide) (by decide +kernel) (dev15 c) (off5 c 2 1) rfl rfl) ?_
  refine next (step_recv m K c 5 rfl (by decide) (by decide +kernel) rfl) ?_
  refine next (step_slot m K c 3 (by decide +kernel) (off6 c 1)) ?_
  refine next (step_k m K c 3 (off7 c 1)) ?_
  exact (hQ _).trans (le_wp_ret _ _ _ _ _)

theorem part14 (v32 : FVec F S256x512 .bf16) (v106 : IVec S128x128 1) (v384 : FVec F S256x512 .f32) (v428 : BitVec 32) (v463 : FVec F S256x512 .bf16) (v468 v472 : FVec F S8x128x64 .bf16) {Q : _ → sProp 𝕄}
    (hQ : St m K c 11 6 0 ⊢ Q ⟨k0_pay30 v106 v384 v463 v468 v472 (vAt m c 3), k0_pay32 (blkAt m c 4), k0_pay33 v32 (blkAt m c 4), k0_pay34 (kAt m c 4)⟩) :
    St m K c 11 6 0 ⊢ Wp c (onArgs (k0_part14 (F := F)) c v32 v106 v384 v428 v463 v468 v472) Q := by
  rw [k0_part14_eq_skeleton]
  unfold onArgs k0_part14_skel
  simp only [Prog.lift, Prog.bind_op, Prog.bind_ret, Prog.pure_eq_ret]
  refine next (step_v m K c 3 (off7 c 1)) ?_
  refine next (step_slot m K c 4 (by decide +kernel) (off8 c 2 1)) ?_
  refine next (step_k m K c 4 (off9 c 2 1)) ?_
  exact hQ.trans (le_wp_ret _ _ _ _ _)

theorem part15 (v32 : FVec F S256x512 .bf16) (v106 : IVec S128x128 1) (v449 : BitVec 32) (v501 : FVec F S256x512 .f32) (v507 : FVec F S256x512 .bf16) (v512 v516 : FVec F S8x128x64 .bf16) {Q : _ → sProp 𝕄}
    (hQ : St m K c 11 6 0 ⊢ Q ⟨k0_pay35 v106 v501 v507 v512 v516 (vAt m c 4), k0_pay37 (blkAt m c 5), k0_pay38 v32 (blkAt m c 5), k0_pay39 (kAt m c 5)⟩) :
    St m K c 11 6 0 ⊢ Wp c (onArgs (k0_part15 (F := F)) c v32 v106 v449 v501 v507 v512 v516) Q := by
  rw [k0_part15_eq_skeleton]
  unfold onArgs k0_part15_skel
  simp only [Prog.lift, Prog.bind_op, Prog.bind_ret, Prog.pure_eq_ret]
  refine next (step_v m K c 4 (off9 c 2 1)) ?_
  refine next (step_slot m K c 5 (by decide +kernel) (off8 c 0 1)) ?_
  refine next (step_k m K c 5 (off9 c 0 1)) ?_
  exact hQ.trans (le_wp_ret _ _ _ _ _)

theorem part16 (v2 v7 : BitVec 32) (v106 : IVec S128x128 1) (v545 : FVec F S256x512 .f32) (v551 : FVec F S256x512 .bf16) (v556 v560 : FVec F S8x128x64 .bf16) {Q : _ → sProp 𝕄}
    (hQ : ∀ v592, St m K c 11 7 0 ⊢ Q ⟨k0_pay40 v106 v545 v551 v556 v560 (vAt m c 5), v592, 1#32⟩) :
    St m K c 11 6 0 ⊢ Wp c (onArgs (k0_part16 (F := F)) c v2 v7 v106 v545 v551 v556 v560) Q := by
  rw [k0_part16_eq_skeleton]
  unfold onArgs k0_part16_skel
  simp only [Prog.lift, Prog.bind_op, Prog.bind_ret, Prog.pure_eq_ret]
  refine next (step_v m K c 5 (off9 c 0 1)) ?_
  refine next (step_recv m K c 7 rfl (by decide) (by decide +kernel) rfl) ?_
  exact (hQ _).trans (le_wp_ret _ _ _ _ _)

theorem part17 (v7 v10 c1 : BitVec 32) {Q : _ → sProp 𝕄}
    (hQ : ∀ v623, St m K c 13 8 0 ⊢ Q v623) :
    St m K c 11 7 0 ⊢ Wp c (onArgs (k0_part17 (F := F)) c v7 v10 c1) Q := by
  rw [k0_part17_eq_skeleton]
  unfold onArgs k0_part17_skel
  simp only [Prog.lift, Prog.bind_op, Prog.bind_ret, Prog.pure_eq_ret]
  refine next (step_send m K c 11 rfl (by decide) (by decide +kernel) (dev16 c) (off4 c 2) rfl rfl) ?_
  refine next (step_send m K c 12 rfl (by decide) (by decide +kernel) (dev17 c) (off4 c 2) rfl rfl) ?_
  refine next (step_recv m K c 8 rfl (by decide) (by decide +kernel) rfl) ?_
  exact (hQ _).trans (le_wp_ret _ _ _ _ _)

theorem part18 (v7 : BitVec 32) (v32 : FVec F S256x512 .bf16) (v592 : BitVec 32) {Q : _ → sProp 𝕄}
    (hQ : ∀ v644, St m K c 14 9 0 ⊢ Q ⟨v644, k0_pay42 (blkAt m c 7), k0_pay43 v32 (blkAt m c 7), kAt m c 7⟩) :
    St m K c 13 8 0 ⊢ Wp c (onArgs (k0_part18 (F := F)) c v7 v32 v592) Q := by
  rw [k0_part18_eq_skeleton]
  unfold onArgs k0_part18_skel
  simp only [Prog.lift, Prog.bind_op, Prog.bind_ret, Prog.pure_eq_ret]
  refine next (step_send m K c 13 rfl (by decide) (by decide +kernel) (dev18 c) (off5 c 2 2) rfl rfl) ?_
  refine next (step_recv m K c 9 rfl (by decide) (by decide +kernel) rfl) ?_
  refine next (step_slot m K c 7 (by decide +kernel) (off6 c 2)) ?_
  refine next (step_k m K c 7 (off7 c 2)) ?_
  exact (hQ _).trans (le_wp_ret _ _ _ _ _)

theorem part19 (v32 : FVec F S256x512 .bf16) (v106 : IVec S128x128 1) (v589 : FVec F S256x512 .f32) (v592 v623 : BitVec 32) (v658 : FVec F S256x512 .bf16) (v663 : FVec F S8x128x64 .bf16) (v666 : Vec F S8x128x64 .bf16) {Q : _ → sProp 𝕄}
    (hQ : St m K c 14 9 0 ⊢ Q ⟨k0_pay44 v106 v589 v658 v663 v666 (vAt m c 7), k0_pay46 (blkAt m c 8), k0_pay47 v32 (blkAt m c 8), kAt m c 8⟩) :
    St m K c 14 9 0 ⊢ Wp c (onArgs (k0_part19 (F := F)) c v32 v106 v589 v592 v623 v658 v663 v666) Q := by
  rw [k0_part19_eq_skeleton]
  unfold onArgs k0_part19_skel
  simp only [Prog.lift, Prog.bind_op, Prog.bind_ret, Prog.pure_eq_ret]
  refine next (step_v m K c 7 (off7 c 2)) ?_
  refine next (step_slot m K c 8 (by decide +kernel) (off8 c 2 2)) ?_
  refine next (step_k m K c 8 (off9 c 2 2)) ?_
  exact hQ.trans (le_wp_ret _ _ _ _ _)

theorem part20 (v32 : FVec F S256x512 .bf16) (v106 : IVec S128x128 1) (v623 v644 : BitVec 32) (v696 : FVec F S256x512 .f32) (v702 : FVec F S256x512 .bf16) (v707 : FVec F S8x128x64 .bf16) (v710 : Vec F S8x128x64 .bf16) {Q : _ → sProp 𝕄}
    (hQ : St m K c 14 9 0 ⊢ Q ⟨k0_pay48 v106 v696 v702 v707 v710 (vAt m c 8), k0_pay50 (blkAt m c 9), k0_pay51 v32 (blkAt m c 9), kAt m c 9⟩) :
    St m K c 14 9 0 ⊢ Wp c (onArgs (k0_part20 (F := F)) c v32 v106 v623 v644 v696 v702 v707 v710) Q := by
  rw [k0_part20_eq_skeleton]
  unfold onArgs k0_part20_skel
  simp only [Prog.lift, Prog.bind_op, Prog.bind_ret, Prog.pure_eq_ret]
  refine next (step_v m K c 8 (off9 c 2 2)) ?_
  refine next (step_slot m K c 9 (by decide +kernel) (off8 c 0 2)) ?_
  refine next (step_k m K c 9 (off9 c 0 2)) ?_
  exact hQ.trans (le_wp_ret _ _ _ _ _)

theorem part21 (v7 v10 : BitVec 32) (v106 : IVec S128x128 1) (v644 : BitVec 32) (v740 : FVec F S256x512 .f32) (v746 : FVec F S256x512 .bf16) (v751 : FVec F S8x128x64 .bf16) (v754 : Vec F S8x128x64 .bf16) {Q : _ → sProp 𝕄}
    (hQ : ∀ v787, St m K c 14 9 0 ⊢ Q ⟨k0_pay52 v106 v740 v746 v751 v754 (vAt m c 9), v787⟩) :
    St m K c 14 9 0 ⊢ Wp c (onArgs (k0_part21 (F := F)) c v7 v10 v106 v644 v740 v746 v751 v754) Q := by
  rw [k0_part21_eq_skeleton]
  unfold onArgs k0_part21_skel
  simp only [Prog.lift, Prog.bind_op, Prog.bind_ret, Prog.pure_eq_ret]
  refine next (step_v m K c 9 (off9 c 0 2)) ?_
  exact (hQ _).trans (le_wp_ret _ _ _ _ _)

theorem part22 (v7 v10 : BitVec 32) (v32 : FVec F S256x512 .bf16) (v787 : BitVec 32) {Q : _ → sProp 𝕄}
    (hQ : ∀ v798, St m K c 15 11 0 ⊢ Q ⟨v798, k0_pay54 (blkAt m c 11), k0_pay55 v32 (blkAt m c 11), 8#32⟩) :
    St m K c 14 9 0 ⊢ Wp c (onArgs (k0_part22 (F := F)) c v7 v10 v32 v787) Q := by
  rw [k0_part22_eq_skeleton]
  unfold onArgs k0_part22_skel
  simp only [Prog.lift, Prog.bind_op, Prog.bind_ret, Prog.pure_eq_ret]
  refine next (step_recv m K c 11 rfl (by decide) (by decide +kernel) rfl) ?_
  refine next (step_recv m K c 12 rfl (by decide) (by decide +kernel) rfl) ?_
  refine next (step_send m K c 14 rfl (by decide) (by decide +kernel) (dev19 c) (off5 c 0 3) rfl rfl) ?_
  refine next (step_slot m K c 11 (by decide +kernel) (off8 c 2 3)) ?_
  exact (hQ _).trans (le_wp_ret _ _ _ _ _)

theorem part23 (v32 : FVec F S256x512 .bf16) (v106 : IVec S128x128 1) (v784 : FVec F S256x512 .f32) (v787 v798 : BitVec 32) (v822 : FVec F S256x512 .bf16) (v827 : FVec F S8x128x64 .bf16) (c8 : BitVec 32) {Q : _ → sProp 𝕄}
    (hQ : St m K c 15 11 0 ⊢ Q ⟨k0_pay56 v106 v784 v822 v827 (kAt m c 11) (vAt m c 11), k0_pay58 (blkAt m c 12), k0_pay59 v32 (blkAt m c 12), 8#32⟩) :
    St m K c 15 11 0 ⊢ Wp c (onArgs (k0_part23 (F := F)) c v32 v106 v784 v787 v798 v822 v827 c8) Q := by
  rw [k0_part23_eq_skeleton]
  unfold onArgs k0_part23_skel
  simp only [Prog.lift, Prog.bind_op, Prog.bind_ret, Prog.pure_eq_ret]
  refine next (step_k m K c 11 (off9 c 2 3)) ?_
  refine next (step_v m K c 11 (off9 c 2 3)) ?_
  refine next (step_slot m K c 12 (by decide +kernel) (off8 c 0 3)) ?_
  exact hQ.trans (le_wp_ret _ _ _ _ _)

theorem part24 (v3 v4 v7 : BitVec 32) (v106 : IVec S128x128 1) (v798 : BitVec 32) (v860 : FVec F S256x512 .f32) (v866 : FVec F S256x512 .bf16) (v871 : FVec F S8x128x64 .bf16) (c8 : BitVec 32) {Q : _ → sProp 𝕄}
    (hQ : ∀ v907 v910 v911, St m K c 15 11 0 ⊢ Q ⟨k0_pay60 v106 v860 v866 v871 (kAt m c 12) (vAt m c 12), v907, v910, v911⟩) :
    St m K c 15 11 0 ⊢ Wp c (onArgs (k0_part24 (F := F)) c v3 v4 v7 v106 v798 v860 v866 v871 c8) Q := by
  rw [k0_part24_eq_skeleton]
  unfold onArgs k0_part24_skel
  simp only [Prog.lift, Prog.bind_op, Prog.bind_ret, Prog.pure_eq_ret]
  refine next (step_k m K c 12 (off9 c 0 3)) ?_
  refine next (step_v m K c 12 (off9 c 0 3)) ?_
  exact (hQ _ _ _).trans (le_wp_ret _ _ _ _ _)

theorem part25 (v32 : FVec F S256x512 .bf16) (v106 : IVec S128x128 1) (v910 v911 : BitVec 32) {Q : _ → sProp 𝕄}
    (hQ : St m K c 15 12 0 ⊢ Q ⟨k0_pay62 (blkAt m c 6), k0_pay63 (vAt m c 6), k0_pay64 v32 v106 (blkAt m c 6) (kAt m c 6), k0_pay65 v32 v106 (blkAt m c 6) (kAt m c 6)⟩) :
    St m K c 15 11 0 ⊢ Wp c (onArgs (k0_part25 (F := F)) c v32 v106 v910 v911) Q := by
  rw [k0_part25_eq_skeleton]
  unfold onArgs k0_part25_skel
  simp only [Prog.lift, Prog.bind_op, Prog.bind_ret, Prog.pure_eq_ret]
  refine next (step_recv m K c 6 rfl (by decide) (by decide +kernel) rfl) ?_
  refine next (step_slot m K c 6 (by decide +kernel) (off8 c 1 0)) ?_
  refine next (step_k m K c 6 (off9 c 1 0)) ?_
  refine next (step_v m K c 6 (off9 c 1 0)) ?_
  exact hQ.trans (le_wp_ret _ _ _ _ _)

theorem part26 (v7 : BitVec 32) (v32 : FVec F S256x512 .bf16) (v904 : FVec F S256x512 .f32) (v907 : BitVec 32) (v924 : FVec F S256x512 .bf16) (v937 : FVec F S8x128x64 .bf16) (v950 : FVec F S8x128x128 .f32) (v951 : FVec F S8x128 .f32) {Q : _ → sProp 𝕄}
    (hQ : St m K c 15 13 0 ⊢ Q ⟨k0_pay66 v904 v924 v937 v950 v951, k0_pay68 (blkAt m c 10), k0_pay69 v32 (blkAt m c 10), k0_pay70 (kAt m c 10)⟩) :
    St m K c 15 12 0 ⊢ Wp c (onArgs (k0_part26 (F := F)) c v7 v32 v904 v907 v924 v937 v950 v951) Q := by
  rw [k0_part26_eq_skeleton]
  unfold onArgs k0_part26_skel
  simp only [Prog.lift, Prog.bind_op, Prog.bind_ret, Prog.pure_eq_ret]
  refine next (step_recv m K c 10 rfl (by decide) (by decide +kernel) rfl) ?_
  refine next (step_slot m K c 10 (by decide +kernel) (off8 c 1 1)) ?_
  refine next (step_k m K c 10 (off9 c 1 1)) ?_
  exact hQ.trans (le_wp_ret _ _ _ _ _)

theorem part27 (v7 : BitVec 32) (v106 : IVec S128x128 1) (v907 : BitVec 32) (v962 : FVec F S256x512 .f32) (v979 : FVec F S256x512 .bf16) (v984 v988 : FVec F S8x128x64 .bf16) {Q : _ → sProp 𝕄}
    (hQ : ∀ v1020, St m K c 15 14 0 ⊢ Q ⟨k0_pay71 v106 v962 v979 v984 v988 (vAt m c 10), v1020⟩) :
    St m K c 15 13 0 ⊢ Wp c (onArgs (k0_part27 (F := F)) c v7 v106 v907 v962 v979 v984 v988) Q := by
  rw [k0_part27_eq_skeleton]
  unfold onArgs k0_part27_skel
  simp only [Prog.lift, Prog.bind_op, Prog.bind_ret, Prog.pure_eq_ret]
  refine next (step_v m K c 10 (off9 c 1 1)) ?_
  refine next (step_recv m K c 13 rfl (by decide) (by decide +kernel) rfl) ?_
  exact (hQ _).trans (le_wp_ret _ _ _ _ _)

theorem part28 (v32 : FVec F S256x512 .bf16) (v106 : IVec S128x128 1) (v1017 : FVec F S256x512 .f32) (v1020 : BitVec 32) {Q : _ → sProp 𝕄}
    (hQ : St m K c 15 14 0 ⊢ Q ⟨k0_pay72 v32 v106 v1017 (blkAt m c 13) (kAt m c 13) (vAt m c 13), 16#32⟩) :
    St m K c 15 14 0 ⊢ Wp c (onArgs (k0_part28 (F := F)) c v32 v106 v1017 v1020) Q := by
  rw [k0_part28_eq_skeleton]
  unfold onArgs k0_part28_skel
  simp only [Prog.lift, Prog.bind_op, Prog.bind_ret, Prog.pure_eq_ret]
  refine next (step_slot m K c 13 (by decide +kernel) (off8 c 1 2)) ?_
  refine next (step_k m K c 13 (off9 c 1 2)) ?_
  refine next (step_v m K c 13 (off9 c 1 2)) ?_
  exact hQ.trans (le_wp_ret _ _ _ _ _)

theorem part29 (v7 : BitVec 32) (v32 : FVec F S256x512 .bf16) (v106 : IVec S128x128 1) (v907 c16 : BitVec 32) {Q : _ → sProp 𝕄}
    (hQ : St m K c 15 15 0 ⊢ Q ⟨k0_pay74 (blkAt m c 14), k0_pay75 (vAt m c 14), k0_pay76 v32 (blkAt m c 14) (kAt m c 14), k0_pay77 v106, k0_pay78 (F := F)⟩) :
    St m K c 15 14 0 ⊢ Wp c (onArgs (k0_part29 (F := F)) c v7 v32 v106 v907 c16) Q := by
  rw [k0_part29_eq_skeleton]
  unfold onArgs k0_part29_skel
  simp only [Prog.lift, Prog.bind_op, Prog.bind_ret, Prog.pure_eq_ret]
  refine next (step_recv m K c 14 rfl (by decide) (by decide +kernel) rfl) ?_
  refine next (step_slot m K c 14 (by decide +kernel) (off8 c 1 3)) ?_
  refine next (step_k m K c 14 (off9 c 1 3)) ?_
  refine next (step_v m K c 14 (off9 c 1 3)) ?_
  exact hQ.trans (le_wp_ret _ _ _ _ _)

theorem part30 (v1072 : FVec F S256x512 .f32) (v1089 : FVec F S256x512 .bf16) (v1102 : FVec F S8x128x64 .bf16) (v1105 : FVec F S8x128x128 .f32) (v1108 : IVec S8x128x128 1) (v1109 : FVec F S8x128x128 .f32) {Q : _ → sProp 𝕄}
    (hQ : St m K c 15 15 2 ⊢ Q (k0_pay79 v1072 v1089 v1102 v1105 v1108 v1109)) :
    St m K c 15 15 0 ⊢ Wp c (onArgs (k0_part30 (F := F)) c v1072 v1089 v1102 v1105 v1108 v1109) Q := by
  rw [k0_part30_eq_skeleton]
  unfold onArgs k0_part30_skel
  simp only [Prog.lift, Prog.bind_op, Prog.bind_ret, Prog.pure_eq_ret]
  refine next (step_sent m K c 0 rfl (by decide) (by decide +kernel) rfl) ?_
  refine next (step_sent m K c 1 rfl (by decide) (by decide +kernel) rfl) ?_
  exact hQ.trans (le_wp_ret _ _ _ _ _)

theorem part31 {Q : _ → sProp 𝕄}
    (hQ : St m K c 15 15 7 ⊢ Q ⟨⟩) :
    St m K c 15 15 2 ⊢ Wp c (onArgs (k0_part31 (F := F)) c) Q := by
  rw [k0_part31_eq_skeleton]
  unfold onArgs k0_part31_skel
  simp only [Prog.lift, Prog.bind_op, Prog.bind_ret, Prog.pure_eq_ret]
  refine next (step_sent m K c 2 rfl (by decide) (by decide +kernel) rfl) ?_
  refine next (step_sent m K c 3 rfl (by decide) (by decide +kernel) rfl) ?_
  refine next (step_sent m K c 4 rfl (by decide) (by decide +kernel) rfl) ?_
  refine next (step_sent m K c 5 rfl (by decide) (by decide +kernel) rfl) ?_
  refine next (step_sent m K c 6 rfl (by decide) (by decide +kernel) rfl) ?_
  exact hQ.trans (le_wp_ret _ _ _ _ _)

theorem part32 {Q : _ → sProp 𝕄}
    (hQ : St m K c 15 15 11 ⊢ Q ⟨⟩) :
    St m K c 15 15 7 ⊢ Wp c (onArgs (k0_part32 (F := F)) c) Q := by
  rw [k0_part32_eq_skeleton]
  unfold onArgs k0_part32_skel
  simp only [Prog.lift, Prog.bind_op, Prog.bind_ret, Prog.pure_eq_ret]
  refine next (step_sent m K c 7 rfl (by decide) (by decide +kernel) rfl) ?_
  refine next (step_sent m K c 8 rfl (by decide) (by decide +kernel) rfl) ?_
  refine next (step_sent m K c 9 rfl (by decide) (by decide +kernel) rfl) ?_
  refine next (step_sent m K c 10 rfl (by decide) (by decide +kernel) rfl) ?_
  exact hQ.trans (le_wp_ret _ _ _ _ _)

end Cert.Proof
-- ==== Proof.Ends.lean ====
/- The two ends of the body: the barrier at its start and the store of the device's own block, the barrier at its end and
   the store of the result. -/
module

public import proofs.«01_k».proof.Proof.Body
public import Idealize.ShloMosaic.Lib.Pipeline.Value

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)
variable (c : Dev nD)

/-! ## Up to the first barrier -/

/-- What the exchange needs later and the first barrier does not touch. -/
def later : sProp 𝕄 :=
  iprop((∃ f, slotPts c c fullShare f)
    ∗ (bigSep Finset.univ fun k : Fin 15 => iprop(dutyTok ER (cell c (.send k)) 0 0 ∗ reached ER (cell c (.send k)) 0 ∗ dutyTok ER (cell (dst c k) (.recv k)) 0 0))
    ∗ (bigSep Finset.univ fun d : Fin 4 => dutyTok ER (cell (nbr c d) .fin) 0 d)
    ∗ cred (tallyAt (cell c .fin) () 4) ∗ atPos ER (cell c .fin) 0 ∅ 0
    ∗ (bigSep Finset.univ (sPos 0 c)) ∗ bigSep Finset.univ (rWait c))

/-- The bundle once `b` signals of the first barrier are made. -/
def Bar (b : ℕ) : sProp 𝕄 :=
  iprop(core m K c ∗ (∃ W, owes (c : Thread nD τ) (owed c b 0 0) W)
    ∗ (bigSep (Finset.univ.filter fun d : Fin 4 => b ≤ d.val) fun d => iprop(dutyTok ER (cell (nbr c d) .bar) 0 d ∗ barPay (nbr c d) d))
    ∗ cred (tallyAt (cell c .bar) () 4) ∗ atPos ER (cell c .bar) 0 ∅ 0 ∗ later c)

/-- The bundle past the first barrier, the own block not yet stored. -/
def Mid : sProp 𝕄 :=
  iprop(core m K c ∗ tail c ∗ (∃ W, owes (c : Thread nD τ) (owed c 4 0 0) W) ∗ (∃ f, slotPts c c fullShare f)
    ∗ (bigSep Finset.univ (ready c)) ∗ (bigSep Finset.univ (sPos 0 c)) ∗ bigSep Finset.univ (rWait c))

theorem dfrom_succ (d : Fin 4) : (Finset.univ.filter fun j : Fin 4 => d.val ≤ j.val) = insert d (Finset.univ.filter fun j : Fin 4 => d.val + 1 ≤ j.val) := by
  ext j; simp only [Finset.mem_filter, Finset.mem_univ, true_and, Finset.mem_insert, Fin.ext_iff]; omega

theorem bar_paid (d : Fin 4) : barPay (nbr c d) d ⊢ ((rd m).payload ((nbr c d : Thread nD τ), SemLoc.reg barS) 0 d : sProp 𝕄) :=
  Entails.of_eq (payload_cell m (nbr c d) .bar d).symm

theorem step_bar {b : ℕ} (d : Fin 4) (hb : d.val = b) {n' : Dev nD} (hn : n' = nbr c d)
    {α : Type} {Q : α → sProp 𝕄} {kk : PUnit → Prog (TpuEff nD τ sig (Elt F) Λ₀ .tc) α} :
    Bar m K c b ⊢ iprop((Bar m K c (b + 1) -∗ Wp c (kk ⟨⟩) Q) -∗ Wp c (.op (.semSignal (Dev.tc n' : Thread nD τ) barS 1) kk) Q) := by
  subst hb hn
  unfold Bar
  rw [dfrom_succ d, peel (S := insert d _) d (fun d => iprop(dutyTok ER (cell (nbr c d) .bar) 0 d ∗ barPay (F := F) (nbr c d) d)) rfl (by simp)]
  unfold core
  iintro ⟨⟨#HI, Hcore⟩, ⟨%W, HO⟩, ⟨⟨Htok, Hpay⟩, Hrest⟩, Hl⟩ Hk
  iapply (Rounds.wp_signal 𝒱₀ ER (rd m) (c : Thread nD τ) none (dst := (nbr c d : Thread nD τ)) (sem := barS) (r := 0) (d := d) (κ := K (cell (nbr c d) .bar))
      (by rw [show ((nbr c d : Thread nD τ), SemLoc.reg barS) = cell (nbr c d) .bar from rfl, duties_cell]; exact Finset.mem_univ _)
      (amount_cell m (nbr c d) .bar d) () (owed c (d.val + 1) 0 0) (owed_bar c d 0 0) (W := W)) $$ [HO Htok Hpay]
  · isplitr; · iapply (inv_at m K (nbr c d) .bar); iexact HI
    isplitl [HO]; · iexact HO
    isplitl [Htok]; · iexact Htok
    isplitl [Hpay]
    · iapply (bar_paid m c d); iexact Hpay
    iapply (bar_reached m K (nbr c d)); iexact HI
  iintro HO
  iapply Hk
  isplitl [Hcore]
  · isplitr; · iexact HI
    iexact Hcore
  isplitl [HO]; · iexists W; iexact HO
  isplitl [Hrest]; · iexact Hrest
  iexact Hl

/-- The direction back, as a permutation. -/
def oppEquiv : Fin 4 ≃ Fin 4 := ⟨opp, opp, opp_opp, opp_opp⟩

omit [FloatOps F] in
/-- The signals of the first barrier, all four received, sorted by transfer: every slot the device fills and every cell it
    pays over there. -/
theorem sort_pays : (bigSep Finset.univ (barPay (F := F) c) : sProp 𝕄)
    ⊢ iprop((bigSep Finset.univ fun k : Fin 15 => iprop((∃ f, slotPts (dst c k) (rslot (dst c k) k) fullShare f) ∗ reached ER (cell (dst c k) (.recv k)) 0))
      ∗ bigSep Finset.univ fun d : Fin 4 => reached ER (cell (nbr c d) .fin) 0) := by
  have e : (Finset.univ : Finset (Fin 15)) = Finset.univ.biUnion fun d : Fin 4 => Finset.univ.filter fun k : Fin 15 => dir k = opp d := by decide
  unfold barPay
  have hk : (bigSep Finset.univ fun d : Fin 4 => bigSep (Finset.univ.filter fun k : Fin 15 => dir k = opp d) fun k =>
        iprop((∃ f, slotPts (dst c k) (rslot (dst c k) k) fullShare f) ∗ reached ER (cell (dst c k) (.recv k)) 0) : sProp 𝕄)
      ⊢ bigSep (Finset.univ : Finset (Fin 15)) fun k => iprop((∃ f, slotPts (dst c k) (rslot (dst c k) k) fullShare f) ∗ reached ER (cell (dst c k) (.recv k)) 0) := by
    rw [e]; exact bigSep_biUnion _ _
  rw [bigSep_sep', bigSep_univ_equiv oppEquiv (fun d : Fin 4 => (reached ER (cell (nbr c d) .fin) 0 : sProp 𝕄))]
  iintro ⟨Hk, Hd⟩
  isplitl [Hk]
  · iapply hk; iexact Hk
  iexact Hd

theorem bar_rest : bigSep ((rd m).duties ((c : Thread nD τ), SemLoc.reg barS) 0 \ ∅) (fun d => (rd m).payload ((c : Thread nD τ), SemLoc.reg barS) 0 d)
    ⊢ (bigSep Finset.univ (barPay (F := F) c) : sProp 𝕄) := by
  rw [show ((c : Thread nD τ), SemLoc.reg barS) = cell c .bar from rfl, rest_cell]; exact BI.Entails.refl _

omit [FloatOps F] in
/-- The transfers' tokens joined with the slots and cells the barrier brought. -/
theorem make_ready : iprop((bigSep Finset.univ fun k : Fin 15 => iprop(dutyTok ER (cell c (.send k)) 0 0 ∗ reached ER (cell c (.send k)) 0 ∗ dutyTok ER (cell (dst c k) (.recv k)) 0 0))
      ∗ bigSep Finset.univ fun k : Fin 15 => iprop((∃ f, slotPts (dst c k) (rslot (dst c k) k) fullShare f) ∗ reached ER (cell (dst c k) (.recv k)) 0))
    ⊢ (bigSep Finset.univ (ready c) : sProp 𝕄) := by
  rw [← bigSep_sep']
  refine bigSep_mono fun k _ => ?_
  unfold ready
  show BIBase.Entails (PROP := sProp 𝕄) _ _
  iintro ⟨⟨Ha, Hb, Hc⟩, Hd, He⟩
  isplitl [Ha]; · iexact Ha
  isplitl [Hb]; · iexact Hb
  isplitl [Hc]; · iexact Hc
  isplitl [He]; · iexact He
  iexact Hd

theorem step_barWait {α : Type} {Q : α → sProp 𝕄} {kk : PUnit → Prog (TpuEff nD τ sig (Elt F) Λ₀ .tc) α} :
    Bar m K c 4 ⊢ iprop((Mid m K c -∗ Wp c (kk ⟨⟩) Q) -∗ Wp c (.op (.semWait barS 4) kk) Q) := by
  unfold Bar Mid later core
  iintro ⟨⟨#HI, #Hlev, Hcore⟩, ⟨%W, HO⟩, -, Hcr, Hat, Hslot, Htoks, Hfin, Hcf, Haf, Hs, Hr⟩ Hk
  iapply (Rounds.wp_wait_rest_token 𝒱₀ ER (rd m) (c : Thread nD τ) none (κ := K (cell c .bar))
      (wpE_semWait_eq 𝒱₀ (c : Thread nD τ) none Set.univ)
      (Set.mem_univ _) () (O := owed c 4 0 0) (W := W) (R := 0) (m := 0) (T := ∅)
      (by rw [show ((c : Thread nD τ), SemLoc.reg barS) = cell c .bar from rfl, expect_cell]; rfl)) $$ [Hcr Hat HO]
  · isplitr; · iapply (inv_at m K c .bar); iexact HI
    isplitl [Hcr]; · iexact Hcr
    isplitl [HO]; · iexact HO
    isplitr; · iapply (mayWait (F := F) c .bar 0 (by show 1 < 0 + 2 ∧ 1 < 100; omega)); iexact Hlev
    iexact Hat
  iintro ⟨HO, Hat, -, Hpay⟩
  ihave Hpay := bar_rest m c $$ Hpay
  ihave Hpay := sort_pays c $$ Hpay
  icases Hpay with ⟨Hslots, Hreach⟩
  iapply Hk
  isplitl [Hcore]
  · isplitr; · iexact HI
    isplitr; · iexact Hlev
    iexact Hcore
  isplitl [Hfin Hreach Hcf Haf Hat]
  · unfold tail
    isplitl [Hfin Hreach]
    · rw [bigSep_sep']
      isplitl [Hfin]; · iexact Hfin
      iexact Hreach
    isplitl [Hcf]; · iexact Hcf
    isplitl [Haf]; · iexact Haf
    iexact Hat
  isplitl [HO]; · iexists (insert (.reg barS, ()) W); iexact HO
  isplitl [Hslot]; · iexact Hslot
  isplitl [Htoks Hslots]
  · iapply (make_ready c)
    isplitl [Htoks]; · iexact Htoks
    iexact Hslots
  isplitl [Hs]; · iexact Hs
  iexact Hr

theorem off_zero2 : (![0, 0] : Fin 2 → ℕ) = fun _ => 0 := by funext i; fin_cases i <;> rfl

theorem step_pk {inb : ∀ a, (![0, 0] : Fin 2 → ℕ) a + S512x512.size a ≤ S512x512.size a}
    {hl : (Memref.whole cc0_stg1_0).view.LoadsAt (Rect.unit (s := S512x512) ![0, 0] S512x512.size inb).toLoadRect}
    {α : Type} {Q : α → sProp 𝕄} {kk : (S512x512.Idx → Elt F .bf16) → Prog (TpuEff nD τ sig (Elt F) Λ₀ .tc) α} :
    Mid m K c ⊢ iprop((Mid m K c -∗ Wp c (kk (V1 m c main_v21)) Q) -∗ Wp c
      (.op (.load (cs := .vmem) (Memref.whole cc0_stg1_0) (Rect.unit (s := S512x512) ![0, 0] S512x512.size inb).toLoadRect hl) kk) Q) := by
  unfold Mid core
  iintro ⟨⟨HI, Hlev, Hx, Hb, Hcore⟩, Hrest⟩ Hk
  iapply (wp_load 𝒱₀ (c : Thread nD τ) none Set.univ (m := Memref.whole cc0_stg1_0) (S := Finset.univ) (hl := hl) (k := kk) (Q := Q) (Finset.subset_univ _)) $$ Hb
  iintro Hb
  rw [show View.readAt (Elt F) (Memref.whole cc0_stg1_0).view (Rect.unit (s := S512x512) ![0, 0] S512x512.size inb).toLoadRect (V1 m c main_v21) = V1 m c main_v21 from
    Memref.readAt_unit_zero (Elt F) cc0_stg1_0 off_zero2 inb (V1 m c main_v21)]
  iapply Hk
  isplitr [Hrest]
  · isplitl [HI]; · iexact HI
    isplitl [Hlev]; · iexact Hlev
    isplitl [Hx]; · iexact Hx
    isplitl [Hb]; · iexact Hb
    iexact Hcore
  iexact Hrest

theorem step_x {s n w : ℕ} {inb : ∀ a, (![0, 0] : Fin 2 → ℕ) a + S256x512.size a ≤ S256x512.size a}
    {hl : (Memref.whole cc0_stg0_0).view.LoadsAt (Rect.unit (s := S256x512) ![0, 0] S256x512.size inb).toLoadRect}
    {α : Type} {Q : α → sProp 𝕄} {kk : (S256x512.Idx → Elt F .bf16) → Prog (TpuEff nD τ sig (Elt F) Λ₀ .tc) α} :
    St m K c s n w ⊢ iprop((St m K c s n w -∗ Wp c (kk (V1 m c main_v19)) Q) -∗ Wp c
      (.op (.load (cs := .vmem) (Memref.whole cc0_stg0_0) (Rect.unit (s := S256x512) ![0, 0] S256x512.size inb).toLoadRect hl) kk) Q) := by
  unfold St core
  iintro ⟨⟨HI, Hlev, Hx, Hcore⟩, Hrest⟩ Hk
  iapply (wp_load 𝒱₀ (c : Thread nD τ) none Set.univ (m := Memref.whole cc0_stg0_0) (S := Finset.univ) (hl := hl) (k := kk) (Q := Q) (Finset.subset_univ _)) $$ Hx
  iintro Hx
  rw [show View.readAt (Elt F) (Memref.whole cc0_stg0_0).view (Rect.unit (s := S256x512) ![0, 0] S256x512.size inb).toLoadRect (V1 m c main_v19) = V1 m c main_v19 from
    Memref.readAt_unit_zero (Elt F) cc0_stg0_0 off_zero2 inb (V1 m c main_v19)]
  iapply Hk
  isplitr [Hrest]
  · isplitl [HI]; · iexact HI
    isplitl [Hlev]; · iexact Hlev
    isplitl [Hx]; · iexact Hx
    iexact Hcore
  iexact Hrest

/-- The program up to the first barrier. -/
theorem part1 {Q : _ → sProp 𝕄} (hQ : ∀ v2 v3 v4 v7 v10 v12 v15, Mid m K c ⊢ Q ⟨c, v2, v3, v4, v7, v10, v12, v15, V1 m c main_v21⟩) :
    Bar m K c 0 ⊢ Wp c (onArgs (k0_part1 (F := F))) Q := by
  rw [k0_part1_eq_skeleton]
  unfold onArgs k0_part1_skel
  simp only [semSignalWord, semWaitWord, Prog.lift, Prog.bind_op, Prog.bind_ret, Prog.pure_eq_ret, wp_deviceId]
  refine next (step_bar m K c 0 rfl (dev1 c)) ?_
  refine next (step_bar m K c 1 rfl (dev2 c)) ?_
  refine next (step_bar m K c 2 rfl (dev3 c)) ?_
  refine next (step_bar m K c 3 rfl (dev4 c)) ?_
  refine next (step_barWait m K c) ?_
  refine next (step_pk m K c) ?_
  exact (hQ _ _ _ _ _ _ _).trans (le_wp_ret _ _ _ _ _)

/-! ## The own block -/

theorem rect_zero (b : Dev nD) (x : (slotRect b).shape.Idx) : (x 0).val = 0 := by
  have h : (x 0).val < 1 := (x 0).isLt
  omega

theorem pay1_apply (v : Vec F S512x512 .bf16) (x : S1x512x512.Idx) : k0_pay1 v x = v (fun a => x a.succ) := by
  unfold k0_pay1
  dsimp only
  rw [shapeCast_self]
  exact shapeCast_addUnit_apply _ _ _ x

theorem filled_at (V : Dev nD → Vec F S512x512 .bf16) (x : (slotRect c).shape.Idx) (g : S16x512x512.Idx → Elt F .bf16)
    (hg : ∀ i, g i = V (⟨(i 0).val, (i 0).isLt⟩ : Dev nD) (fun | 0 => i 1 | 1 => i 2)) :
    g ((slotRect c).emb x) = V c (fun a => x a.succ) := by
  rw [hg]
  have hd : (⟨(((slotRect c).emb x) 0).val, (((slotRect c).emb x) 0).isLt⟩ : Dev nD) = c :=
    Fin.ext (by show c.val + 1 * (x 0).val = c.val; rw [rect_zero c x]; omega)
  rw [hd]
  refine congrArg (V c) (Shape.idx_ext₂ ?_ ?_)
  · show 0 + 1 * (x 1).val = (x 1).val; omega
  · show 0 + 1 * (x 2).val = (x 2).val; omega

omit [FloatOps F] in
theorem own_write (f : (cc0_scratch0 : Ref sig .tc).ty.Contents (Elt F)) (w : (slotRect c).shape.Idx → Elt F .bf16) (x : (slotRect c).shape.Idx) :
    (gM.access (slotRect c)).write (Elt F) f w Finset.univ ((slotRect c).emb x) = w x :=
  View.write_emb_of_mem (v := gM.access (slotRect c)) f w (h := Finset.mem_univ x)

omit [FloatOps F] in
theorem write_on (f g : (cc0_scratch0 : Ref sig .tc).ty.Contents (Elt F)) (w : (slotRect c).shape.Idx → Elt F .bf16) (hw : ∀ x, w x = g ((slotRect c).emb x)) :
    ∀ i ∈ slotSet c, (gM.access (slotRect c)).write (Elt F) f w Finset.univ i = g i := by
  intro i hi
  rw [slotSet_eq] at hi
  obtain ⟨x, -, hx⟩ := Finset.mem_map.mp (show i ∈ Finset.univ.map ((View.whole cc0_scratch0).slice (slotRect c)).emb from (View.set_slice_whole cc0_scratch0 (slotRect c)).ge hi)
  rw [← hx]
  exact (own_write c f w x).trans (hw x)

omit [FloatOps F] in
theorem slot_congr (f g : (cc0_scratch0 : Ref sig .tc).ty.Contents (Elt F)) (h : ∀ i ∈ slotSet c, f i = g i) :
    (slotPts c c fullShare f : sProp 𝕄) = slotPts c c fullShare g := by
  unfold slotPts
  exact pointsTo_congr h

omit [FloatOps F] in
theorem slot_write (f g : (cc0_scratch0 : Ref sig .tc).ty.Contents (Elt F)) (w : (slotRect c).shape.Idx → Elt F .bf16) (hw : ∀ x, w x = g ((slotRect c).emb x)) :
    (slotPts c c fullShare ((gM.access (slotRect c)).write (Elt F) f w Finset.univ) : sProp 𝕄) = slotPts c c fullShare g :=
  slot_congr c _ g (write_on c f g w hw)

theorem own_val (x : (slotRect c).shape.Idx) : k0_pay1 (V1 m c main_v21 : Vec F S512x512 .bf16) x = G m ((slotRect c).emb x) :=
  (pay1_apply _ x).trans (filled_at c (fun b => V1 m b main_v21) x (G m) fun _ => rfl).symm

theorem step_slot0 {off : Fin 3 → ℕ} (hoff : off = ![c.val, 0, 0]) {inb : ∀ a, off a + S1x512x512.size a ≤ S16x512x512.size a}
    {hl : gM.view.LoadsAt (Rect.unit (s := S16x512x512) off S1x512x512.size inb).toLoadRect}
    {α : Type} {Q : α → sProp 𝕄} {kk : (S1x512x512.Idx → Elt F .bf16) → Prog (TpuEff nD τ sig (Elt F) Λ₀ .tc) α} {A : sProp 𝕄}
    (hQ : ∀ v, Mid m K c ⊢ Wp c (kk v) Q) :
    Mid m K c ⊢ Wp c (.op (.load (cs := .vmem) gM (Rect.unit (s := S16x512x512) off S1x512x512.size inb).toLoadRect hl) kk) Q := by
  subst hoff
  refine (show Mid m K c ⊢ iprop((∃ f, slotPts c c fullShare f) ∗ ((∃ f, slotPts c c fullShare f) -∗ Mid m K c)) from ?_).trans ?_
  · unfold Mid
    iintro ⟨Hc, Ht, HO, Hs, Hrest⟩
    isplitl [Hs]; · iexact Hs
    iintro Hs
    isplitl [Hc]; · iexact Hc
    isplitl [Ht]; · iexact Ht
    isplitl [HO]; · iexact HO
    isplitl [Hs]; · iexact Hs
    iexact Hrest
  iintro ⟨⟨%f, Hs⟩, Hrest⟩
  iapply (wp_load 𝒱₀ (c : Thread nD τ) none Set.univ (m := gM) (S := slotSet c) (q := fullShare) (f := f)
    (r := (slotRect c).toLoadRect) (hl := hl) (k := kk) (Q := Q) (slot_reads c)) $$ [Hs]
  · iapply (show slotPts c c fullShare f ⊢ (gM.view.loc (c : Thread nD τ) ↦[slotSet c]{fullShare} f) from BI.Entails.refl _); iexact Hs
  iintro Hs
  iapply (hQ _)
  iapply Hrest
  iexists f
  iapply (show (gM.view.loc (c : Thread nD τ) ↦[slotSet c]{fullShare} f) ⊢ slotPts c c fullShare f from BI.Entails.refl _); iexact Hs

theorem own_writes : (gM.access (slotRect c)).setOn Finset.univ ⊆ slotSet c := by
  rw [slotSet_eq]
  exact (View.set_slice_whole cc0_scratch0 (slotRect c)).le

theorem Mid_St : iprop(core m K c ∗ tail c ∗ (∃ W, owes (c : Thread nD τ) (owed c 4 0 0) W) ∗ slotPts c c fullShare (G m)
    ∗ (bigSep Finset.univ (ready c)) ∗ (bigSep Finset.univ (sPos 0 c)) ∗ bigSep Finset.univ (rWait c)) ⊢ St m K c 0 0 0 := by
  unfold St
  rw [show (Finset.univ.filter fun k : Fin 15 => 0 ≤ k.val) = Finset.univ by decide, show (Finset.univ.filter fun k : Fin 15 => 0 ≤ k.val ∧ k.val < 0) = ∅ by decide,
    show (Finset.univ.filter fun k : Fin 15 => k.val < 0) = ∅ by decide, show (Finset.univ.filter fun k : Fin 15 => 0 ≤ rpos k) = Finset.univ by decide,
    show (Finset.univ.filter fun k : Fin 15 => rpos k < 0) = ∅ by decide, show avail 0 0 0 = quarters 15 by decide +kernel,
    bigSep_empty, bigSep_empty, bigSep_empty]
  iintro ⟨Hc, Ht, HO, Hs, Hr, Hp, Hw⟩
  ihave Hs := (show slotPts c c fullShare (G m) ⊢ bigSep (quarters 15) (piece m c) from (quarters_pieces m c 15).1) $$ Hs
  isplitl [Hc]; · iexact Hc
  isplitl [Ht]; · iexact Ht
  isplitl [HO]; · iexact HO
  isplitl [Hr]; · iexact Hr
  isplitr; · iempintro
  isplitl [Hp]; · iexact Hp
  isplitr; · iempintro
  isplitl [Hw]; · iexact Hw
  isplitr; · iempintro
  iexact Hs

theorem step_own {off : Fin 3 → ℕ} (hoff : off = ![c.val, 0, 0]) {inb : ∀ a, off a + S1x512x512.size a ≤ S16x512x512.size a}
    {hx : (gM.access (Rect.unit (s := S16x512x512) off S1x512x512.size inb)).Stores Finset.univ}
    {hm : (Finset.univ : Finset (Rect.unit (s := S16x512x512) off S1x512x512.size inb).shape.Idx) = Finset.univ ∨ ∀ a, (Rect.unit (s := S16x512x512) off S1x512x512.size inb).stride a = 1}
    {α : Type} {Q : α → sProp 𝕄} {kk : PUnit → Prog (TpuEff nD τ sig (Elt F) Λ₀ .tc) α} :
    Mid m K c ⊢ iprop((St m K c 0 0 0 -∗ Wp c (kk ⟨⟩) Q) -∗ Wp c
      (.op (.store (cs := .vmem) gM (Rect.unit (s := S16x512x512) off S1x512x512.size inb) (k0_pay1 (V1 m c main_v21)) Finset.univ hx hm) kk) Q) := by
  subst hoff
  unfold Mid
  iintro ⟨Hc, Ht, HO, ⟨%f, Hs⟩, Hrest⟩ Hk
  iapply (wp_store 𝒱₀ (c : Thread nD τ) none Set.univ (m := gM) (r := slotRect c) (w := k0_pay1 (V1 m c main_v21)) (Mk := Finset.univ) (S := slotSet c) (f := f) (hx := hx) (hm := hm) (k := kk) (Q := Q)
    (own_writes c)) $$ [Hs]
  · iapply (show slotPts c c fullShare f ⊢ ((gM.access (slotRect c)).loc (c : Thread nD τ) ↦[slotSet c]{fullShare} f) from BI.Entails.refl _); iexact Hs
  iintro Hs
  iapply Hk
  iapply (Mid_St m K c)
  isplitl [Hc]; · iexact Hc
  isplitl [Ht]; · iexact Ht
  isplitl [HO]; · iexact HO
  isplitl [Hs]
  · iapply (show ((gM.access (slotRect c)).loc (c : Thread nD τ) ↦[slotSet c]{fullShare} ((gM.access (slotRect c)).write (Elt F) f (k0_pay1 (V1 m c main_v21)) Finset.univ)) ⊢ slotPts c c fullShare (G m) from
      Entails.of_eq (slot_write c f (G m) _ (own_val m c))); iexact Hs
  iexact Hrest

theorem part2 (v2 : BitVec 32) {Q : _ → sProp 𝕄}
    (hQ : ∀ v58 v69, v58 = iota .tc S128x128 32 [1] iota_S128x128_d1_w32 → v69 = Scalar.extui (Scalar.cmpi .sgt 64#32 0#32) →
      St m K c 0 0 0 ⊢ Q ⟨k0_pay2 (V1 m c main_v19), k0_pay3, v58, 64#32, k0_pay4, k0_pay5, v69⟩) :
    Mid m K c ⊢ Wp c (onArgs (k0_part2 (F := F)) c v2 (V1 m c main_v21)) Q := by
  rw [k0_part2_eq_skeleton]
  unfold onArgs k0_part2_skel
  simp only [Prog.lift, Prog.bind_op, Prog.bind_ret, Prog.pure_eq_ret]
  refine step_slot0 m K c (A := iprop(emp)) (k0_off1_eq c) fun _ => ?_
  refine next (step_own m K c (k0_off1_eq c)) ?_
  refine next (step_x m K c) ?_
  exact (hQ _ _ rfl rfl).trans (le_wp_ret _ _ _ _ _)

theorem part3 {P : sProp 𝕄} (v12 : BitVec 32) (v57 v58 : IVec S128x128 32) (c64 : BitVec 32) (v60 v67 : IVec S128x128 32) (v69 : BitVec 32) {Q : _ → sProp 𝕄}
    (hQ : P ⊢ Q (k0_pay6 v57 v58 c64 v60 v67 v69)) :
    P ⊢ Wp c (onArgs (k0_part3 (F := F)) v12 v57 v58 c64 v60 v67 v69) Q := by
  rw [k0_part3_eq_skeleton]
  unfold onArgs k0_part3_skel
  simp only [Prog.pure_eq_ret]
  exact hQ.trans (le_wp_ret _ _ _ _ _)

end Cert.Proof
-- ==== Proof.Last.lean ====
/- The end of the body: the last barrier and the store of the result. -/
module

public import proofs.«01_k».proof.Proof.Ends

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)
variable (c : Dev nD)

/-! ## The last barrier -/

/-- The bundle once every wait of the exchange is over and `e` signals of the last barrier are made. -/
def Fin' (e : ℕ) : sProp 𝕄 :=
  iprop(core m K c ∗ (∃ W, owes (c : Thread nD τ) (owed c 4 15 e) W)
    ∗ (bigSep (Finset.univ.filter fun d : Fin 4 => e ≤ d.val) fun d => iprop(dutyTok ER (cell (nbr c d) .fin) 0 d ∗ reached ER (cell (nbr c d) .fin) 0))
    ∗ cred (tallyAt (cell c .fin) () 4) ∗ atPos ER (cell c .fin) 0 ∅ 0 ∗ atPos ER (cell c .bar) 1 ∅ 0
    ∗ (bigSep Finset.univ (sPos 1 c)) ∗ (bigSep Finset.univ (rPos c)) ∗ bigSep Finset.univ (piece m c))

/-- What the body leaves, the result's staging buffer at `v`. -/
def Done (v : (cc0_stg4_0 : Ref sig .tc).ty.Contents (Elt F)) : sProp 𝕄 :=
  iprop((records m K ∗ full c cc0_stg0_0 (V1 m c main_v19) ∗ full c cc0_stg1_0 (V1 m c main_v21)
      ∗ full c cc0_stg2_0 (V1 m c main_v16) ∗ full c cc0_stg3_0 (V1 m c main_v18) ∗ full c cc0_stg4_0 v)
    ∗ (∃ W, owes (c : Thread nD τ) 0 W) ∗ atPos ER (cell c .fin) 1 ∅ 0 ∗ atPos ER (cell c .bar) 1 ∅ 0
    ∗ (bigSep Finset.univ (sPos 1 c)) ∗ (bigSep Finset.univ (rPos c)) ∗ bigSep Finset.univ (piece m c))

/-- The bundle past the last barrier. -/
def Shut : sProp 𝕄 :=
  iprop(core m K c ∗ (∃ W, owes (c : Thread nD τ) 0 W) ∗ atPos ER (cell c .fin) 1 ∅ 0 ∗ atPos ER (cell c .bar) 1 ∅ 0
    ∗ (bigSep Finset.univ (sPos 1 c)) ∗ (bigSep Finset.univ (rPos c)) ∗ bigSep Finset.univ (piece m c))

theorem St_Fin : St m K c 15 15 15 ⊢ Fin' m K c 0 := by
  unfold St Fin' tail
  rw [show (Finset.univ.filter fun k : Fin 15 => 15 ≤ k.val) = ∅ by decide, show (Finset.univ.filter fun k : Fin 15 => 15 ≤ k.val ∧ k.val < 15) = ∅ by decide,
    show (Finset.univ.filter fun k : Fin 15 => k.val < 15) = Finset.univ by decide, show (Finset.univ.filter fun k : Fin 15 => 15 ≤ rpos k) = ∅ by decide,
    show (Finset.univ.filter fun k : Fin 15 => rpos k < 15) = Finset.univ by decide, show avail 15 15 15 = Finset.univ by decide +kernel,
    show (Finset.univ.filter fun d : Fin 4 => 0 ≤ d.val) = Finset.univ by decide]
  iintro ⟨Hc, ⟨Htok, Hcr, Haf, Hab⟩, HO, -, -, -, Hs, -, Hr, Hp⟩
  isplitl [Hc]; · iexact Hc
  isplitl [HO]; · iexact HO
  isplitl [Htok]; · iexact Htok
  isplitl [Hcr]; · iexact Hcr
  isplitl [Haf]; · iexact Haf
  isplitl [Hab]; · iexact Hab
  isplitl [Hs]; · iexact Hs
  isplitl [Hr]; · iexact Hr
  iexact Hp

theorem fin_paid (d : Fin 4) : (iprop(emp) : sProp 𝕄) ⊢ ((rd m).payload ((nbr c d : Thread nD τ), SemLoc.reg finS) 0 d : sProp 𝕄) :=
  Entails.of_eq (payload_cell m (nbr c d) .fin d).symm

theorem step_fin {e : ℕ} (d : Fin 4) (he : d.val = e) {n' : Dev nD} (hn : n' = nbr c d) {s : Sem sig} (hsem : s = finS)
    {α : Type} {Q : α → sProp 𝕄} {kk : PUnit → Prog (TpuEff nD τ sig (Elt F) Λ₀ .tc) α} :
    Fin' m K c e ⊢ iprop((Fin' m K c (e + 1) -∗ Wp c (kk ⟨⟩) Q) -∗ Wp c (.op (.semSignal (Dev.tc n' : Thread nD τ) s 1) kk) Q) := by
  subst he hn hsem
  unfold Fin'
  rw [dfrom_succ d, peel (S := insert d _) d (fun d => (iprop(dutyTok ER (cell (nbr c d) .fin) 0 d ∗ reached ER (cell (nbr c d) .fin) 0) : sProp 𝕄)) rfl (by simp)]
  unfold core
  iintro ⟨⟨#HI, Hcore⟩, ⟨%W, HO⟩, ⟨⟨Htok, #Hr⟩, Hrest⟩, Hl⟩ Hk
  iapply (Rounds.wp_signal 𝒱₀ ER (rd m) (c : Thread nD τ) none (dst := (nbr c d : Thread nD τ)) (sem := finS) (r := 0) (d := d) (κ := K (cell (nbr c d) .fin))
      (by rw [show ((nbr c d : Thread nD τ), SemLoc.reg finS) = cell (nbr c d) .fin from rfl, duties_cell]; exact Finset.mem_univ _)
      (amount_cell m (nbr c d) .fin d) () (owed c 4 15 (d.val + 1)) (owed_fin c 4 15 d) (W := W)) $$ [HO Htok]
  · isplitr; · iapply (inv_at m K (nbr c d) .fin); iexact HI
    isplitl [HO]; · iexact HO
    isplitl [Htok]; · iexact Htok
    isplitr
    · iapply (fin_paid m c d); iempintro
    iexact Hr
  iintro HO
  iapply Hk
  isplitl [Hcore]
  · isplitr; · iexact HI
    iexact Hcore
  isplitl [HO]; · iexists W; iexact HO
  isplitl [Hrest]; · iexact Hrest
  iexact Hl

theorem step_finWait {s : Sem sig} (hsem : s = finS) {α : Type} {Q : α → sProp 𝕄} {kk : PUnit → Prog (TpuEff nD τ sig (Elt F) Λ₀ .tc) α} :
    Fin' m K c 4 ⊢ iprop((Shut m K c -∗ Wp c (kk ⟨⟩) Q) -∗ Wp c (.op (.semWait s 4) kk) Q) := by
  subst hsem
  unfold Fin' Shut core
  rw [owed_none]
  iintro ⟨⟨#HI, Hcore⟩, ⟨%W, HO⟩, -, Hcr, Hat, Hrest⟩ Hk
  iapply (Rounds.wp_wait_rest_token 𝒱₀ ER (rd m) (c : Thread nD τ) none (κ := K (cell c .fin))
      (wpE_semWait_eq 𝒱₀ (c : Thread nD τ) none Set.univ)
      (Set.mem_univ _) () (O := 0) (W := W) (R := 0) (m := 0) (T := ∅)
      (by rw [show ((c : Thread nD τ), SemLoc.reg finS) = cell c .fin from rfl, expect_cell]; rfl)) $$ [Hcr Hat HO]
  · isplitr; · iapply (inv_at m K c .fin); iexact HI
    isplitl [Hcr]; · iexact Hcr
    isplitl [HO]; · iexact HO
    isplitr; · rw [MayWait_zero]; iempintro
    iexact Hat
  iintro ⟨HO, Hat, -, -⟩
  iapply Hk
  isplitl [Hcore]
  · isplitr; · iexact HI
    iexact Hcore
  isplitl [HO]; · iexists (insert (.reg finS, ()) W); iexact HO
  isplitl [Hat]; · iexact Hat
  iexact Hrest

theorem part33 (v7 : BitVec 32) {Q : _ → sProp 𝕄} (hQ : ∀ w, Fin' m K c 1 ⊢ Q w) :
    St m K c 15 15 11 ⊢ Wp c (onArgs (k0_part33 (F := F)) c v7) Q := by
  rw [k0_part33_eq_skeleton]
  unfold onArgs k0_part33_skel
  simp only [semSignalWord, Prog.lift, Prog.bind_op, Prog.bind_ret, Prog.pure_eq_ret]
  refine next (step_sent m K c 11 rfl (by decide) (by decide +kernel) rfl) ?_
  refine next (step_sent m K c 12 rfl (by decide) (by decide +kernel) rfl) ?_
  refine next (step_sent m K c 13 rfl (by decide) (by decide +kernel) rfl) ?_
  refine next (step_sent m K c 14 rfl (by decide) (by decide +kernel) rfl) ?_
  refine (St_Fin m K c).trans ?_
  refine next (step_fin m K c 0 rfl (dev20 c) rfl) ?_
  exact (hQ _).trans (le_wp_ret _ _ _ _ _)

/-! ## The result -/

theorem step_out {inb : ∀ a, (![0, 0] : Fin 2 → ℕ) a + S256x512.size a ≤ S256x512.size a}
    {hl : (Memref.whole cc0_stg4_0).view.LoadsAt (Rect.unit (s := S256x512) ![0, 0] S256x512.size inb).toLoadRect}
    {α : Type} {Q : α → sProp 𝕄} {kk : (S256x512.Idx → Elt F .f32) → Prog (TpuEff nD τ sig (Elt F) Λ₀ .tc) α}
    (hQ : ∀ v, Shut m K c ⊢ Wp c (kk v) Q) :
    Shut m K c ⊢ Wp c
      (.op (.load (cs := .vmem) (Memref.whole cc0_stg4_0) (Rect.unit (s := S256x512) ![0, 0] S256x512.size inb).toLoadRect hl) kk) Q := by
  refine (show Shut m K c ⊢ iprop((∃ f, full c cc0_stg4_0 f) ∗ ((∃ f, full c cc0_stg4_0 f) -∗ Shut m K c)) from ?_).trans ?_
  · unfold Shut core
    iintro ⟨⟨HI, Hlev, Hx, Hb, Hk, Hv, Ho⟩, Hrest⟩
    isplitl [Ho]; · iexact Ho
    iintro Ho
    isplitr [Hrest]
    · isplitl [HI]; · iexact HI
      isplitl [Hlev]; · iexact Hlev
      isplitl [Hx]; · iexact Hx
      isplitl [Hb]; · iexact Hb
      isplitl [Hk]; · iexact Hk
      isplitl [Hv]; · iexact Hv
      iexact Ho
    iexact Hrest
  iintro ⟨⟨%f, Ho⟩, Hrest⟩
  iapply (wp_load 𝒱₀ (c : Thread nD τ) none Set.univ (m := Memref.whole cc0_stg4_0) (S := Finset.univ) (f := f) (hl := hl) (k := kk) (Q := Q) (Finset.subset_univ _)) $$ Ho
  iintro Ho
  iapply (hQ _)
  iapply Hrest
  iexists f
  iexact Ho

theorem step_store (v : S256x512.Idx → Elt F .f32) {inb : ∀ a, (![0, 0] : Fin 2 → ℕ) a + S256x512.size a ≤ S256x512.size a}
    {hx : ((Memref.whole cc0_stg4_0).access (Rect.unit (s := S256x512) ![0, 0] S256x512.size inb)).Stores Finset.univ}
    {hm : (Finset.univ : Finset (Rect.unit (s := S256x512) ![0, 0] S256x512.size inb).shape.Idx) = Finset.univ ∨ ∀ a, (Rect.unit (s := S256x512) ![0, 0] S256x512.size inb).stride a = 1}
    {α : Type} {Q : α → sProp 𝕄} {kk : PUnit → Prog (TpuEff nD τ sig (Elt F) Λ₀ .tc) α} :
    Shut m K c ⊢ iprop((Done m K c v -∗ Wp c (kk ⟨⟩) Q) -∗ Wp c
      (.op (.store (cs := .vmem) (Memref.whole cc0_stg4_0) (Rect.unit (s := S256x512) ![0, 0] S256x512.size inb) v Finset.univ hx hm) kk) Q) := by
  unfold Shut Done core
  iintro ⟨⟨HI, -, Hx, Hb, Hk', Hv, ⟨%f, Ho⟩⟩, Hrest⟩ Hk
  iapply (wp_store 𝒱₀ (c : Thread nD τ) none Set.univ (m := Memref.whole cc0_stg4_0) (r := Rect.unit (s := S256x512) ![0, 0] S256x512.size inb) (w := v) (Mk := Finset.univ) (S := Finset.univ) (f := f) (hx := hx) (hm := hm) (k := kk) (Q := Q)
    (Finset.subset_univ _)) $$ Ho
  iintro Ho
  rw [show ((Memref.whole cc0_stg4_0).access (Rect.unit (s := S256x512) ![0, 0] S256x512.size inb)).write (Elt F) f v Finset.univ = v from
    Memref.write_access_unit_zero_univ (Elt F) cc0_stg4_0 off_zero2 inb f v]
  iapply Hk
  isplitr [Hrest]
  · isplitl [HI]; · iexact HI
    isplitl [Hx]; · iexact Hx
    isplitl [Hb]; · iexact Hb
    isplitl [Hk']; · iexact Hk'
    isplitl [Hv]; · iexact Hv
    iexact Ho
  iexact Hrest

end Cert.Proof
-- ==== Proof.Out.lean ====
/- The result of the kernel as a sum of sixteen parts, one for each block of weights. -/
module

public import proofs.«01_k».proof.Proof.Last

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)
variable (c : Dev nD)
variable (c : Dev nD)

/-! ## What one block adds to the result -/

/-- What a block `b` of packed weights, with the heads' rows `k` and `v`, adds to the result of the rows `x` under `mk`. -/
def contrib (x : FVec F S256x512 .bf16) (mk : IVec S128x128 1) (b : Vec F S1x512x512 .bf16) (k v : Vec F S8x128x64 .bf16) : FVec F S256x512 .f32 :=
  k0_pay10 mk (k0_pay8 b) (k0_pay9 x b) k v

section Acc
variable (x : FVec F S256x512 .bf16) (mk : IVec S128x128 1) (b : Vec F S1x512x512 .bf16) (k v : Vec F S8x128x64 .bf16) (acc : FVec F S256x512 .f32)

theorem add15 : k0_pay10 mk (k0_pay8 b) (k0_pay9 x b) k v = contrib x mk b k v := rfl
theorem add0 : k0_pay15 acc (k0_pay12 b) (k0_pay13 v) (k0_pay14 x mk b k) = addf acc (contrib x mk b k v) := rfl
theorem add1 : k0_pay20 acc (k0_pay17 b) (k0_pay18 v) (k0_pay19 x mk b k) = addf acc (contrib x mk b k v) := rfl
theorem add2 : k0_pay25 acc (k0_pay22 b) (k0_pay23 v) (k0_pay24 x mk b k) = addf acc (contrib x mk b k v) := rfl
theorem add3 : k0_pay30 mk acc (k0_pay27 b) (k0_pay28 x b) (k0_pay29 k) v = addf acc (contrib x mk b k v) := rfl
theorem add4 : k0_pay35 mk acc (k0_pay32 b) (k0_pay33 x b) (k0_pay34 k) v = addf acc (contrib x mk b k v) := rfl
theorem add5 : k0_pay40 mk acc (k0_pay37 b) (k0_pay38 x b) (k0_pay39 k) v = addf acc (contrib x mk b k v) := rfl
theorem add7 : k0_pay44 mk acc (k0_pay42 b) (k0_pay43 x b) k v = addf acc (contrib x mk b k v) := rfl
theorem add8 : k0_pay48 mk acc (k0_pay46 b) (k0_pay47 x b) k v = addf acc (contrib x mk b k v) := rfl
theorem add9 : k0_pay52 mk acc (k0_pay50 b) (k0_pay51 x b) k v = addf acc (contrib x mk b k v) := rfl
theorem add11 : k0_pay56 mk acc (k0_pay54 b) (k0_pay55 x b) k v = addf acc (contrib x mk b k v) := rfl
theorem add12 : k0_pay60 mk acc (k0_pay58 b) (k0_pay59 x b) k v = addf acc (contrib x mk b k v) := rfl
theorem add6 : k0_pay66 acc (k0_pay62 b) (k0_pay63 v) (k0_pay64 x mk b k) (k0_pay65 x mk b k) = addf acc (contrib x mk b k v) := rfl
theorem add10 : k0_pay71 mk acc (k0_pay68 b) (k0_pay69 x b) (k0_pay70 k) v = addf acc (contrib x mk b k v) := rfl
theorem add13 : k0_pay72 x mk acc b k v = addf acc (contrib x mk b k v) := rfl
theorem add14 : k0_pay79 acc (k0_pay74 b) (k0_pay75 v) (k0_pay76 x b k) (k0_pay77 mk) (k0_pay78 (F := F)) = addf acc (contrib x mk b k v) := rfl
end Acc

/-- The mask the program computes. -/
def maskW : IVec S128x128 1 :=
  k0_pay6 k0_pay3 (iota .tc S128x128 32 [1] iota_S128x128_d1_w32) 64#32 k0_pay4 k0_pay5 (Scalar.extui (Scalar.cmpi .sgt 64#32 0#32))

/-- What source `a` adds to the result of device `c`. -/
def partAt (a : Fin 16) : FVec F S256x512 .f32 :=
  contrib (k0_pay2 (V1 m c main_v19)) maskW (blkAt m c a) (kAt m c a) (vAt m c a)

/-- The result of device `c`: the sixteen parts in the order they are added. -/
def outAt : FVec F S256x512 .f32 :=
  [0, 1, 2, 3, 4, 5, 7, 8, 9, 11, 12, 6, 10, 13, 14].foldl (fun acc a => addf acc (partAt m c a)) (partAt m c 15)

end Cert.Proof
-- ==== Proof.Head.lean ====
/- Attention of one head over the reals, and what one block of weights adds to the kernel's result in terms of it. -/
module

public import proofs.«01_k».proof.Proof.Out
public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Proof

open Idealize.ShloMosaic Idealize.ShloMosaic.ValueIdx
open scoped BigOperators

/-! ## One head -/

/-- The greatest of a row. -/
def top (s : Fin 128 → EReal) : EReal := Finset.univ.fold max (Ideal.ofBits .f32 0xFF800000#32) s

/-- A row's weights. -/
def soft (s : Fin 128 → EReal) (j : Fin 128) : EReal := Ideal.div (Ideal.exp (s j - top s)) (∑ k, Ideal.exp (s k - top s))

/-- The score of row `i` with column `j`: the scaled product of their vectors, or the filler where the mask is off. -/
def score (mk : Fin 128 → Fin 128 → BitVec 1) (q k : Fin 128 → Fin 64 → EReal) (i j : Fin 128) : EReal :=
  Scalar.select (mk i j) ((∑ e, q i e * k j e) * Ideal.ofBits .f32 0x3E000000#32) (Ideal.ofBits .f32 0xCE6E6B28#32)

/-- What the head gives at row `i`, coordinate `d`. -/
def att (mk : Fin 128 → Fin 128 → BitVec 1) (q k v : Fin 128 → Fin 64 → EReal) (i : Fin 128) (d : Fin 64) : EReal :=
  ∑ j, soft (score mk q k i) j * v j d

/-! ## Positions -/

/-- Row `i` of the batch `b`, of 256. -/
abbrev rowOf (b : Fin 2) (i : Fin 128) : Fin 256 := ⟨b.val * 128 + i.val, by have := b.isLt; have := i.isLt; omega⟩
/-- Column `d` of head `h`, of 256. -/
abbrev colOf (h : Fin 4) (d : Fin 64) : Fin 256 := ⟨h.val * 64 + d.val, by have := h.isLt; have := d.isLt; omega⟩
/-- The place of head `h` and batch `b` among the eight. -/
abbrev headOf (h : Fin 4) (b : Fin 2) : Fin 8 := ⟨h.val * 2 + b.val, by have := b.isLt; have := h.isLt; omega⟩
/-- The place of column `n` in the first half of a block. -/
abbrev lo (n : Fin 256) : Fin 512 := ⟨n.val, by have := n.isLt; omega⟩
/-- The place of row `n` in the second half of a block. -/
abbrev hi (n : Fin 256) : Fin 512 := ⟨256 + n.val, by have := n.isLt; omega⟩

/-! ## The kernel's operations at an index -/

open Cert.Kernel Cert.Kernel.Gen

variable (x : FVec Ideal S256x512 .bf16) (mk : IVec S128x128 1) (b : Vec Ideal S1x512x512 .bf16) (k v : Vec Ideal S8x128x64 .bf16)

/-- The block without its unit axis. -/
theorem pay7_at (r c : Fin 512) : k0_pay7 b (ix2 r c) = b (ix3 0 r c) := shapeCast_1ab_ab_apply b _ r c

/-- The second factor of a block. -/
theorem pay8_at (n : Fin 256) (c : Fin 512) : k0_pay8 b (ix2 n c) = b (ix3 0 c (hi n)) := by
  unfold k0_pay8
  refine (transpose_ix2_apply _ _ n c).trans ?_
  refine (slice2_axis1_apply 256 _ _ c n (hi n) rfl).trans ?_
  exact pay7_at b c (hi n)

/-- The rows' vectors, by head and batch. -/
theorem pay9_at (h : Fin 4) (p : Fin 2) (i : Fin 128) (d : Fin 64) :
    k0_pay9 x b (ix3 (headOf h p) i d) = ∑ e : Fin 512, x (ix2 (rowOf p i) e) * b (ix3 0 e (lo (colOf h d))) := by
  unfold k0_pay9
  refine (shapeCast_apply _ _ _ (ix4 h p i d) ?_).trans ?_
  · rw [Shape.rowMajor_val_four, Shape.rowMajor_val_three]
    show ((h.val * 2 + p.val) * 128 + i.val) * 64 + d.val = ((h.val * 2 + p.val) * 128 + i.val) * 64 + d.val
    rfl
  refine (transpose_apply _ _ _ _ (ix4 p i h d) ?_).trans ?_
  · intro c; match c with | ⟨0, _⟩ => rfl | ⟨1, _⟩ => rfl | ⟨2, _⟩ => rfl | ⟨3, _⟩ => rfl
  refine (shapeCast_apply _ _ _ (ix2 (rowOf p i) (colOf h d)) ?_).trans ?_
  · rw [Shape.rowMajor_val_four, Shape.rowMajor_val_two]
    show (p.val * 128 + i.val) * 256 + (h.val * 64 + d.val) = ((p.val * 128 + i.val) * 4 + h.val) * 64 + d.val
    omega
  refine (Ideal.matmul_plain_apply (M := 256) (K := 512) (N := 256) none x _ _ (rowOf p i) (colOf h d)).trans ?_
  rw [show (constant S256x256 .f32 0x00000000#32 : FVec Ideal S256x256 .f32) (ix2 (rowOf p i) (colOf h d)) = 0 from Ideal.ofBits_zero_f32, zero_add]
  refine Finset.sum_congr rfl fun e _ => congrArg (x (ix2 (rowOf p i) e) * ·) ?_
  refine (slice2_axis1_apply 0 _ _ e (colOf h d) (lo (colOf h d)) (by show _ = 0 + _; rw [zero_add])).trans ?_
  exact pay7_at b e _

/-- A product of eight pairs of vectors, the second transposed. -/
theorem dotT_at (l r : FVec Ideal S8x128x64 .bf16) (g : Fin 8) (i j : Fin 128) :
    matmul dot_S8x128x64_S8x128x64_S8x128x128_2_2_1_1_0_0 none l r (constant S8x128x128 .f32 0x00000000#32) (ix3 g i j)
      = ∑ e : Fin 64, l (ix3 g i e) * r (ix3 g j e) := by
  refine (Ideal.matmul_constant_zero_apply _ none l r (ix3 g i j)).trans ?_
  let D := dot_S8x128x64_S8x128x64_S8x128x128_2_2_1_1_0_0
  have hr : D.contr.rank = 1 := rfl
  have hs : D.contr.size ⟨0, by omega⟩ = 64 := rfl
  rw [← Equiv.sum_comp (contrEquiv1 D 64 hr hs).symm]
  refine Finset.sum_congr rfl fun e _ => ?_
  have he := contrEquiv1_symm_val D 64 hr hs e
  have el : D.lhsIdx (ix3 g i j) ((contrEquiv1 D 64 hr hs).symm e) = ix3 g i e := by
    funext a; apply Fin.ext
    match a with | ⟨0, _⟩ => rfl | ⟨1, _⟩ => rfl | ⟨2, _⟩ => exact he
  have er : D.rhsIdx (ix3 g i j) ((contrEquiv1 D 64 hr hs).symm e) = ix3 g j e := by
    funext a; apply Fin.ext
    match a with | ⟨0, _⟩ => rfl | ⟨1, _⟩ => rfl | ⟨2, _⟩ => exact he
  rw [el, er]

/-- A product of eight pairs of matrices. -/
theorem dotP_at (l : FVec Ideal S8x128x128 .bf16) (r : FVec Ideal S8x128x64 .bf16) (g : Fin 8) (i : Fin 128) (d : Fin 64) :
    matmul dot_S8x128x128_S8x128x64_S8x128x64_2_1_1_2_0_0 none l r (constant S8x128x64 .f32 0x00000000#32) (ix3 g i d)
      = ∑ j : Fin 128, l (ix3 g i j) * r (ix3 g j d) := by
  refine (Ideal.matmul_constant_zero_apply _ none l r (ix3 g i d)).trans ?_
  let D := dot_S8x128x128_S8x128x64_S8x128x64_2_1_1_2_0_0
  have hr : D.contr.rank = 1 := rfl
  have hs : D.contr.size ⟨0, by omega⟩ = 128 := rfl
  rw [← Equiv.sum_comp (contrEquiv1 D 128 hr hs).symm]
  refine Finset.sum_congr rfl fun e _ => ?_
  have he := contrEquiv1_symm_val D 128 hr hs e
  have el : D.lhsIdx (ix3 g i d) ((contrEquiv1 D 128 hr hs).symm e) = ix3 g i e := by
    funext a; apply Fin.ext
    match a with | ⟨0, _⟩ => rfl | ⟨1, _⟩ => rfl | ⟨2, _⟩ => exact he
  have er : D.rhsIdx (ix3 g i d) ((contrEquiv1 D 128 hr hs).symm e) = ix3 g e d := by
    funext a; apply Fin.ext
    match a with | ⟨0, _⟩ => rfl | ⟨1, _⟩ => exact he | ⟨2, _⟩ => rfl
  rw [el, er]

/-- A row of the score array with its last coordinate put back. -/
theorem lift_ix3 (h : S8x128x128.Reduces [2] S8x128) (g : Fin 8) (i j : Fin 128) : h.lift (ix2 g i) j = ix3 g i j := by
  funext a; match a with | ⟨0, _⟩ => rfl | ⟨1, _⟩ => rfl | ⟨2, _⟩ => rfl

/-- One value per row, spread along the row. -/
theorem spread_at (f : FVec Ideal S8x128 .f32) (g : Fin 8) (i j : Fin 128) :
    broadcastTo S8x128x128 (shapeCast S8x128x1 f shapeCasts_S8x128_S8x128x1) broadcasts_S8x128x1_S8x128x128 (ix3 g i j) = f (ix2 g i) := by
  refine (broadcastTo_apply _ _ _ (ix3 g i 0) ?_).trans ?_
  · intro a; match a with | ⟨0, _⟩ => rfl | ⟨1, _⟩ => rfl | ⟨2, _⟩ => rfl
  refine shapeCast_apply _ _ _ (ix2 g i) ?_
  rw [Shape.rowMajor_val_three, Shape.rowMajor_val_two]
  show g.val * 128 + i.val = (g.val * 128 + i.val) * 1 + 0
  omega

/-- The mask, for each of the eight. -/
theorem mask_at (g : Fin 8) (i j : Fin 128) :
    broadcastTo S8x128x128 (shapeCast S1x128x128 (shapeCast S1x128x128 mk shapeCasts_S128x128_S1x128x128) shapeCasts_S1x128x128_S1x128x128)
      broadcasts_S1x128x128_S8x128x128 (ix3 g i j) = mk (ix2 i j) := by
  rw [shapeCast_self]
  refine (broadcastTo_apply _ _ _ (ix3 0 i j) ?_).trans (shapeCast_ab_1ab_apply mk _ 0 i j)
  intro a; match a with | ⟨0, _⟩ => rfl | ⟨1, _⟩ => rfl | ⟨2, _⟩ => rfl

/-- Eight rows of scores to their weights, as the kernel computes them. -/
def softW (s : FVec Ideal S8x128x128 .f32) : FVec Ideal S8x128x128 .f32 :=
  have m := multiReduction .maximumf [2] S8x128 s 0xFF800000#32 reduces_S8x128x128_S8x128 (.inl rfl) rfl
  have e := exp (subf s (broadcastTo S8x128x128 (shapeCast S8x128x1 m shapeCasts_S8x128_S8x128x1) broadcasts_S8x128x1_S8x128x128))
  have t := multiReduction .add [2] S8x128 e 0x00000000#32 reduces_S8x128x128_S8x128 (.inl rfl) rfl
  divf e (broadcastTo S8x128x128 (shapeCast S8x128x1 t shapeCasts_S8x128_S8x128x1) broadcasts_S8x128x1_S8x128x128)

theorem softW_at (s : FVec Ideal S8x128x128 .f32) (g : Fin 8) (i j : Fin 128) : softW s (ix3 g i j) = soft (fun l => s (ix3 g i l)) j := by
  have hm : (multiReduction .maximumf [2] S8x128 s 0xFF800000#32 reduces_S8x128x128_S8x128 (.inl rfl) rfl) (ix2 g i) = top (fun l => s (ix3 g i l)) := by
    refine (Ideal.multiReduction_maximumf_single s _ reduces_S8x128x128_S8x128 (.inl rfl) rfl (ix2 g i)).trans ?_
    exact congrArg (Finset.fold max (Ideal.ofBits .f32 0xFF800000#32) · Finset.univ) (funext fun l => congrArg s (lift_ix3 _ g i l))
  have he : ∀ l, (exp (subf s (broadcastTo S8x128x128 (shapeCast S8x128x1 (multiReduction .maximumf [2] S8x128 s 0xFF800000#32 reduces_S8x128x128_S8x128 (.inl rfl) rfl) shapeCasts_S8x128_S8x128x1) broadcasts_S8x128x1_S8x128x128)) : FVec Ideal S8x128x128 .f32) (ix3 g i l)
      = Ideal.exp (s (ix3 g i l) - top (fun l => s (ix3 g i l))) := fun l => by
    refine congrArg (fun z => Ideal.exp (s (ix3 g i l) - z)) ?_
    exact (spread_at _ g i l).trans hm
  unfold softW soft
  refine congr (congrArg Ideal.div (he j)) ?_
  refine (spread_at _ g i j).trans ?_
  refine (Ideal.multiReduction_add_single _ _ reduces_S8x128x128_S8x128 (.inl rfl) rfl (ix2 g i)).trans ?_
  exact Finset.sum_congr rfl fun l _ => (congrArg _ (lift_ix3 _ g i l)).trans (he l)

/-- The kernel's scores. -/
def scoreW (q k : FVec Ideal S8x128x64 .bf16) : FVec Ideal S8x128x128 .f32 :=
  select (broadcastTo S8x128x128 (shapeCast S1x128x128 (shapeCast S1x128x128 mk shapeCasts_S128x128_S1x128x128) shapeCasts_S1x128x128_S1x128x128) broadcasts_S1x128x128_S8x128x128)
    (mulf (matmul dot_S8x128x64_S8x128x64_S8x128x128_2_2_1_1_0_0 none q k (constant S8x128x128 .f32 0x00000000#32)) (broadcast S8x128x128 (Scalar.ofBits .f32 0x3E000000#32)))
    (broadcast S8x128x128 (Scalar.ofBits .f32 0xCE6E6B28#32))

theorem scoreW_at (q k : FVec Ideal S8x128x64 .bf16) (g : Fin 8) (i j : Fin 128) :
    scoreW mk q k (ix3 g i j) = score (fun i j => mk (ix2 i j)) (fun i e => q (ix3 g i e)) (fun j e => k (ix3 g j e)) i j := by
  unfold scoreW score
  refine congr (congr (congrArg Scalar.select (mask_at mk g i j)) ?_) rfl
  exact congrArg (· * Ideal.ofBits .f32 0x3E000000#32) (dotT_at q k g i j)

/-- The heads' results, by head and batch. -/
def ctxW (q k v : FVec Ideal S8x128x64 .bf16) : FVec Ideal S8x128x64 .f32 :=
  matmul dot_S8x128x128_S8x128x64_S8x128x64_2_1_1_2_0_0 none (truncf .bf16 (softW (scoreW mk q k)) bitsLt_bf16_f32) v (constant S8x128x64 .f32 0x00000000#32)

theorem ctxW_at (q k v : FVec Ideal S8x128x64 .bf16) (g : Fin 8) (i : Fin 128) (d : Fin 64) :
    ctxW mk q k v (ix3 g i d) = att (fun i j => mk (ix2 i j)) (fun i e => q (ix3 g i e)) (fun j e => k (ix3 g j e)) (fun j e => v (ix3 g j e)) i d := by
  refine (dotP_at _ v g i d).trans (Finset.sum_congr rfl fun j _ => congrArg (· * v (ix3 g j d)) ?_)
  refine (softW_at _ g i j).trans ?_
  exact congrArg (soft · j) (funext fun l => scoreW_at mk q k g i l)

/-- The kernel's steps from the heads' rows on are these. -/
theorem pay10_eq (w : FVec Ideal S256x512 .bf16) (q : FVec Ideal S8x128x64 .bf16) :
    k0_pay10 mk w q k v = matmul dot_S256x256_S256x512_S256x512_1_0_0_1_n_n none
      (shapeCast S256x256 (transpose S2x128x4x64 [1, 2, 0, 3] (shapeCast S4x2x128x64 (truncf .bf16
        (ctxW mk q (shapeCast S8x128x64 k shapeCasts_S8x128x64_S8x128x64) (shapeCast S8x128x64 v shapeCasts_S8x128x64_S8x128x64)) bitsLt_bf16_f32)
        shapeCasts_S8x128x64_S4x2x128x64) transposes_S4x2x128x64_p1_2_0_3_S2x128x4x64) shapeCasts_S2x128x4x64_S256x256)
      w (constant S256x512 .f32 0x00000000#32) := rfl

/-- The heads' results set out by row, at a row and a column. -/
theorem rows_at (f : FVec Ideal S8x128x64 .bf16) (p : Fin 2) (i : Fin 128) (h : Fin 4) (d : Fin 64) :
    shapeCast S256x256 (transpose S2x128x4x64 [1, 2, 0, 3] (shapeCast S4x2x128x64 f shapeCasts_S8x128x64_S4x2x128x64)
      transposes_S4x2x128x64_p1_2_0_3_S2x128x4x64) shapeCasts_S2x128x4x64_S256x256 (ix2 (rowOf p i) (colOf h d)) = f (ix3 (headOf h p) i d) := by
  refine (shapeCast_apply _ _ _ (ix4 p i h d) ?_).trans ?_
  · rw [Shape.rowMajor_val_four, Shape.rowMajor_val_two]
    show ((p.val * 128 + i.val) * 4 + h.val) * 64 + d.val = (p.val * 128 + i.val) * 256 + (h.val * 64 + d.val)
    omega
  refine (transpose_apply _ _ _ _ (ix4 h p i d) ?_).trans ?_
  · intro c; match c with | ⟨0, _⟩ => rfl | ⟨1, _⟩ => rfl | ⟨2, _⟩ => rfl | ⟨3, _⟩ => rfl
  refine shapeCast_apply _ _ _ (ix3 (headOf h p) i d) ?_
  rw [Shape.rowMajor_val_four, Shape.rowMajor_val_three]
  rfl

/-- A column of 256 by its head and coordinate. -/
def colEquiv : Fin 4 × Fin 64 ≃ Fin 256 := finProdFinEquiv

theorem sum_cols {M : Type*} [AddCommMonoid M] (f : Fin 256 → M) : ∑ n, f n = ∑ h : Fin 4, ∑ d : Fin 64, f (colOf h d) := by
  rw [← Equiv.sum_comp colEquiv f, Fintype.sum_prod_type]
  refine Finset.sum_congr rfl fun h _ => Finset.sum_congr rfl fun d _ => congrArg f (Fin.ext ?_)
  show d.val + 64 * h.val = h.val * 64 + d.val
  omega

/-- What a block adds at a row and a column: the heads' results times the second factor. -/
theorem contrib_at (p : Fin 2) (i : Fin 128) (c : Fin 512) :
    contrib x mk b k v (ix2 (rowOf p i) c) = ∑ h : Fin 4, ∑ d : Fin 64,
      att (fun i j => mk (ix2 i j)) (fun i d => ∑ e : Fin 512, x (ix2 (rowOf p i) e) * b (ix3 0 e (lo (colOf h d))))
        (fun j e => k (ix3 (headOf h p) j e)) (fun j e => v (ix3 (headOf h p) j e)) i d * b (ix3 0 c (hi (colOf h d))) := by
  unfold contrib
  rw [pay10_eq, shapeCast_self, shapeCast_self]
  refine (Ideal.matmul_plain_apply (M := 256) (K := 256) (N := 512) none _ _ _ (rowOf p i) c).trans ?_
  rw [show (constant S256x512 .f32 0x00000000#32 : FVec Ideal S256x512 .f32) (ix2 (rowOf p i) c) = 0 from Ideal.ofBits_zero_f32, zero_add, sum_cols]
  refine Finset.sum_congr rfl fun h _ => Finset.sum_congr rfl fun d _ => congr (congrArg HMul.hMul ?_) (pay8_at b (colOf h d) c)
  refine (rows_at _ p i h d).trans ?_
  refine (ctxW_at mk _ k v (headOf h p) i d).trans ?_
  exact congrArg (fun q => att _ q _ _ i d) (funext fun i => funext fun d => pay9_at x b h p i d)

end Cert.Proof

end
-- ==== Proof.Args.lean ====
/- What the operations before the kernel make of the arguments, at an index. -/
module

public import proofs.«01_k».proof.Proof.Head
public import Idealize.ShloMosaic.Lib.StableHlo.Run
public import Idealize.ShloMosaic.Lib.LayoutAt

@[expose] public section

noncomputable section

namespace Cert.Proof

open Idealize.ShloMosaic Idealize.ShloMosaic.TcCoe Idealize.ShloMosaic.ValueIdx Idealize.ShloMosaic.StableHlo
open Cert.Kernel Cert.Kernel.Gen

variable {F : FTy → Type} [FloatOps F]

/-- The number of the device. -/
def devW (c : Dev nD) : IVec S_ 32 := id (Host.remui (Host.divui (constantI S_ 32 (Dev.word c)) (constantI S_ 32 1#32)) (constantI S_ 32 16#32))

/-- The first of the two rows of the third and fourth arguments the device reads. -/
def startW (c : Dev nD) : IVec S_ 32 :=
  select (cmpi .slt (muli (devW c) (constantI S_ 32 2#32)) (constantI S_ 32 0#32)) (addi (muli (devW c) (constantI S_ 32 2#32)) (constantI S_ 32 32#32)) (muli (devW c) (constantI S_ 32 2#32))

/-- The starts of the slice of the third and fourth arguments. -/
def startsW (c : Dev nD) : Fin 4 → IVec S_ 32 := ![startW c, constantI S_ 32 0#32, constantI S_ 32 0#32, constantI S_ 32 0#32]

/-- The device's rows of the third or the fourth argument, head by head. -/
def headsW (c : Dev nD) (x : FVec F S32x128x64x64 .bf16) : FVec F S128x128x64 .bf16 :=
  shapeCast S128x128x64 (transpose S64x2x128x64 [2, 0, 1, 3]
    (Host.dynamicSlice S2x128x64x64 x (fun k => (startsW c k (Shape.Idx.first h_S_)).toInt) sliceFits_S32x128x64x64_S2x128x64x64)
    transposes_S2x128x64x64_S64x2x128x64_2_0_1_3) shapeCasts_S64x2x128x64_S128x128x64

/-- The first factor beside the transposed second. -/
def packW (x : FVec F S512x256 .bf16) (y : FVec F S256x512 .bf16) : FVec F S512x512 .bf16 :=
  concatenate S512x512 1 [⟨S512x256, x⟩, ⟨S512x256, transpose S512x256 [1, 0] y transposes_S256x512_S512x256_1_0⟩] concatenates_S512x256_S512x256_S512x512_d1

variable (m : (ℓ : Loc nD τ sig) → Buf (Elt F) ℓ) (c : Dev nD)

/-- The operations from the third argument's slice on, given its starts. -/
theorem v16_of (W : Valuation τ sig (Elt F)) (h8 : W main_v8 = startW c) (h4 : W main_c_4 = constantI S_ 32 0#32)
    (h5 : W main_c_5 = constantI S_ 32 0#32) (h6 : W main_c_6 = constantI S_ 32 0#32) :
    after ((hostOps0 c).drop 16) W main_v16 = headsW c (W main_arg2) := by
  simp only [hostOps0, List.drop_succ_cons, List.drop_zero]
  after_results_simp
  unfold headsW
  refine congrArg (fun st => shapeCast S128x128x64 (transpose S64x2x128x64 [2, 0, 1, 3]
    (Host.dynamicSlice S2x128x64x64 (W main_arg2) st sliceFits_S32x128x64x64_S2x128x64x64)
    transposes_S2x128x64x64_S64x2x128x64_2_0_1_3) shapeCasts_S64x2x128x64_S128x128x64) ?_
  funext k
  match k with
  | ⟨0, _⟩ => exact congrArg (fun z : IVec S_ 32 => (z (Shape.Idx.first h_S_)).toInt) h8
  | ⟨1, _⟩ => exact congrArg (fun z : IVec S_ 32 => (z (Shape.Idx.first h_S_)).toInt) h4
  | ⟨2, _⟩ => exact congrArg (fun z : IVec S_ 32 => (z (Shape.Idx.first h_S_)).toInt) h5
  | ⟨3, _⟩ => exact congrArg (fun z : IVec S_ 32 => (z (Shape.Idx.first h_S_)).toInt) h6

/-- The operations from the fourth argument's slice on, given its starts. -/
theorem v18_of (W : Valuation τ sig (Elt F)) (h13 : W main_v13 = startW c) (h4 : W main_c_10 = constantI S_ 32 0#32)
    (h5 : W main_c_11 = constantI S_ 32 0#32) (h6 : W main_c_12 = constantI S_ 32 0#32) :
    after ((hostOps0 c).drop 27) W main_v18 = headsW c (W main_arg3) := by
  simp only [hostOps0, List.drop_succ_cons, List.drop_zero]
  after_results_simp
  unfold headsW
  refine congrArg (fun st => shapeCast S128x128x64 (transpose S64x2x128x64 [2, 0, 1, 3]
    (Host.dynamicSlice S2x128x64x64 (W main_arg3) st sliceFits_S32x128x64x64_S2x128x64x64)
    transposes_S2x128x64x64_S64x2x128x64_2_0_1_3) shapeCasts_S64x2x128x64_S128x128x64) ?_
  funext k
  match k with
  | ⟨0, _⟩ => exact congrArg (fun z : IVec S_ 32 => (z (Shape.Idx.first h_S_)).toInt) h13
  | ⟨1, _⟩ => exact congrArg (fun z : IVec S_ 32 => (z (Shape.Idx.first h_S_)).toInt) h4
  | ⟨2, _⟩ => exact congrArg (fun z : IVec S_ 32 => (z (Shape.Idx.first h_S_)).toInt) h5
  | ⟨3, _⟩ => exact congrArg (fun z : IVec S_ 32 => (z (Shape.Idx.first h_S_)).toInt) h6

/-- The rest of a list of operations, after its start. -/
theorem after_drop (n : ℕ) (l : List (HloOp τ sig (Elt F))) (V : Valuation τ sig (Elt F)) : after l V = after (l.drop n) (after (l.take n) V) := by
  rw [← after_append, List.take_append_drop]

/-! ## Before the slices -/

theorem before_v8 : after ((hostOps0 c).take 16) (V0 m c) main_v8 = startW c := by
  simp only [hostOps0, List.take_succ_cons, List.take_zero]
  after_results_simp <;> rfl

theorem before_arg2 : after ((hostOps0 c).take 16) (V0 m c) main_arg2 = m ((c.tc : Thread nD τ).loc main_arg2) := by
  simp only [hostOps0, List.take_succ_cons, List.take_zero]
  after_results_simp <;> rfl

theorem before_v13 : after ((hostOps0 c).take 27) (V0 m c) main_v13 = startW c := by
  simp only [hostOps0, List.take_succ_cons, List.take_zero]
  after_results_simp <;> rfl

theorem before_arg3 : after ((hostOps0 c).take 27) (V0 m c) main_arg3 = m ((c.tc : Thread nD τ).loc main_arg3) := by
  simp only [hostOps0, List.take_succ_cons, List.take_zero]
  after_results_simp <;> rfl

/-! ## The operands -/

theorem V1_v16 : V1 m c main_v16 = headsW c (m ((c.tc : Thread nD τ).loc main_arg2)) := by
  rw [V1, after_drop 16, v16_of c _ (before_v8 m c), before_arg2]
  all_goals
    simp only [hostOps0, List.take_succ_cons, List.take_zero]
    after_results_simp

theorem V1_v18 : V1 m c main_v18 = headsW c (m ((c.tc : Thread nD τ).loc main_arg3)) := by
  rw [V1, after_drop 27, v18_of c _ (before_v13 m c), before_arg3]
  all_goals
    simp only [hostOps0, List.take_succ_cons, List.take_zero]
    after_results_simp

theorem V1_v19 : V1 m c main_v19 = shapeCast S256x512 (m ((c.tc : Thread nD τ).loc main_arg0)) shapeCasts_S2x128x512_S256x512 := by
  simp only [V1, hostOps0]
  after_results_simp <;> rfl

theorem V1_v21 : V1 m c main_v21 = packW (m ((c.tc : Thread nD τ).loc main_arg1)) (m ((c.tc : Thread nD τ).loc main_arg4)) := by
  simp only [V1, hostOps0]
  after_results_simp <;> rfl

/-! ## At an index -/

/-- The device's two rows start at twice its number. -/
theorem startsW_at : ∀ (c : Dev nD) (a : Fin 4), (startsW c a (Shape.Idx.first h_S_)).toInt = if a = 0 then 2 * (c.val : ℤ) else 0 := by decide +kernel

/-- Row `p` of the device's two, of 32. -/
abbrev batchOf (c : Dev nD) (p : Fin 2) : Fin 32 := ⟨2 * c.val + p.val, by have := c.isLt; have := p.isLt; simp only [nD] at *; omega⟩
/-- Head `h` of the four that go with device `s`, of 64. -/
abbrev headIn (s : Dev nD) (h : Fin 4) : Fin 64 := ⟨4 * s.val + h.val, by have := s.isLt; have := h.isLt; simp only [nD] at *; omega⟩
/-- The place of head `h` and row `p` for device `s`, of 128. -/
abbrev placeOf (s : Dev nD) (g : Fin 8) : Fin 128 := ⟨8 * s.val + g.val, by have := s.isLt; have := g.isLt; simp only [nD] at *; omega⟩

theorem headsW_at (x : FVec F S32x128x64x64 .bf16) (s : Dev nD) (h : Fin 4) (p : Fin 2) (j : Fin 128) (d : Fin 64) :
    headsW c x (ix3 (placeOf s (headOf h p)) j d) = x (ix4 (batchOf c p) j (headIn s h) d) := by
  unfold headsW
  refine (shapeCast_apply _ _ _ (ix4 (headIn s h) p j d) ?_).trans ?_
  · rw [Shape.rowMajor_val_four, Shape.rowMajor_val_three]
    show (((4 * s.val + h.val) * 2 + p.val) * 128 + j.val) * 64 + d.val = ((8 * s.val + (h.val * 2 + p.val)) * 128 + j.val) * 64 + d.val
    omega
  refine (transpose_apply _ _ _ _ (ix4 p j (headIn s h) d) ?_).trans ?_
  · intro c; match c with | ⟨0, _⟩ => rfl | ⟨1, _⟩ => rfl | ⟨2, _⟩ => rfl | ⟨3, _⟩ => rfl
  unfold Host.dynamicSlice
  refine extractStridedSlice_apply _ _ _ _ (ix4 (batchOf c p) j (headIn s h) d) ?_
  have hc : c.val < 16 := c.isLt
  have h0 := startsW_at c 0
  have h1 := startsW_at c 1
  have h2 := startsW_at c 2
  have h3 := startsW_at c 3
  rw [if_pos rfl] at h0
  rw [if_neg (by decide)] at h1 h2 h3
  intro a
  match a with
  | ⟨0, _⟩ =>
    show 2 * c.val + p.val = (min (max (startsW c 0 (Shape.Idx.first h_S_)).toInt 0) ((32 - 2 : ℕ) : ℤ)).toNat + p.val
    rw [h0]; omega
  | ⟨1, _⟩ =>
    show j.val = (min (max (startsW c 1 (Shape.Idx.first h_S_)).toInt 0) ((128 - 128 : ℕ) : ℤ)).toNat + j.val
    rw [h1]; omega
  | ⟨2, _⟩ =>
    show 4 * s.val + h.val = (min (max (startsW c 2 (Shape.Idx.first h_S_)).toInt 0) ((64 - 64 : ℕ) : ℤ)).toNat + (4 * s.val + h.val)
    rw [h2]; omega
  | ⟨3, _⟩ =>
    show d.val = (min (max (startsW c 3 (Shape.Idx.first h_S_)).toInt 0) ((64 - 64 : ℕ) : ℤ)).toNat + d.val
    rw [h3]; omega

theorem packW_lo (x : FVec F S512x256 .bf16) (y : FVec F S256x512 .bf16) (e : Fin 512) (n : Fin 256) : packW x y (ix2 e (lo n)) = x (ix2 e n) := by
  unfold packW
  refine concatenate_pair_apply_left (t := S512x512) (s₁ := S512x256) (s₂ := S512x256) 1 x _ _ (ix2 e (lo n)) rfl (ix2 e n) ?_
  intro b; match b with | ⟨0, _⟩ => rfl | ⟨1, _⟩ => rfl

theorem packW_hi (x : FVec F S512x256 .bf16) (y : FVec F S256x512 .bf16) (e : Fin 512) (n : Fin 256) : packW x y (ix2 e (hi n)) = y (ix2 n e) := by
  unfold packW
  refine (concatenate_pair_apply_right (t := S512x512) (s₁ := S512x256) (s₂ := S512x256) 1 x _ _ (ix2 e (hi n)) rfl rfl (ix2 e n) ?_ ?_).trans (transpose_ix2_apply _ _ e n)
  · intro b hb; match b with | ⟨0, _⟩ => rfl | ⟨1, _⟩ => exact absurd rfl hb
  · show n.val + 256 = 256 + n.val; omega

/-- The device's rows, one batch after the other. -/
theorem rows2_at (x : FVec F S2x128x512 .bf16) (p : Fin 2) (i : Fin 128) (e : Fin 512) :
    shapeCast S256x512 x shapeCasts_S2x128x512_S256x512 (ix2 (rowOf p i) e) = x (ix3 p i e) := by
  refine shapeCast_apply _ _ _ (ix3 p i e) ?_
  rw [Shape.rowMajor_val_three, Shape.rowMajor_val_two]
  rfl

/-- The gathered buffer at slot `b`. -/
theorem G_at (b : Dev nD) (e n : Fin 512) : G m (ix3 b e n) = (V1 m b main_v21 : (main_v21 : Ref sig .tc).ty.Contents (Elt F)) (ix2 e n) := by
  unfold G
  refine congrArg (V1 m b main_v21 : (main_v21 : Ref sig .tc).ty.Contents (Elt F)) (funext fun a => ?_)
  match a with | ⟨0, _⟩ => rfl | ⟨1, _⟩ => rfl

variable (a : Fin 16)

theorem blkAt_at (e n : Fin 512) : blkAt m c a (ix3 0 e n)
    = packW (m (((slotOf c a).tc : Thread nD τ).loc main_arg1)) (m (((slotOf c a).tc : Thread nD τ).loc main_arg4)) (ix2 e n) := by
  rw [← V1_v21, ← G_at]
  unfold blkAt
  generalize G m = f
  refine congrArg f (funext fun b => Fin.ext ?_)
  match b with
  | ⟨0, _⟩ => show (slotOf c a).val + 1 * 0 = (slotOf c a).val; omega
  | ⟨1, _⟩ => show 0 + 1 * e.val = e.val; omega
  | ⟨2, _⟩ => show 0 + 1 * n.val = n.val; omega

theorem kAt_at (h : Fin 4) (p : Fin 2) (j : Fin 128) (d : Fin 64) :
    kAt m c a (ix3 (headOf h p) j d) = (m ((c.tc : Thread nD τ).loc main_arg2) : FVec F S32x128x64x64 .bf16) (ix4 (batchOf c p) j (headIn (slotOf c a) h) d) := by
  refine Eq.trans ?_ (headsW_at c (m ((c.tc : Thread nD τ).loc main_arg2)) (slotOf c a) h p j d)
  unfold kAt
  rw [V1_v16]
  generalize headsW c (m ((c.tc : Thread nD τ).loc main_arg2)) = f
  refine congrArg f (funext fun b => Fin.ext ?_)
  match b with
  | ⟨0, _⟩ => show 8 * (slotOf c a).val + 1 * (headOf h p).val = 8 * (slotOf c a).val + (headOf h p).val; omega
  | ⟨1, _⟩ => show 0 + 1 * j.val = j.val; omega
  | ⟨2, _⟩ => show 0 + 1 * d.val = d.val; omega

theorem vAt_at (h : Fin 4) (p : Fin 2) (j : Fin 128) (d : Fin 64) :
    vAt m c a (ix3 (headOf h p) j d) = (m ((c.tc : Thread nD τ).loc main_arg3) : FVec F S32x128x64x64 .bf16) (ix4 (batchOf c p) j (headIn (slotOf c a) h) d) := by
  refine Eq.trans ?_ (headsW_at c (m ((c.tc : Thread nD τ).loc main_arg3)) (slotOf c a) h p j d)
  unfold vAt
  rw [V1_v18]
  generalize headsW c (m ((c.tc : Thread nD τ).loc main_arg3)) = f
  refine congrArg f (funext fun b => Fin.ext ?_)
  match b with
  | ⟨0, _⟩ => show 8 * (slotOf c a).val + 1 * (headOf h p).val = 8 * (slotOf c a).val + (headOf h p).val; omega
  | ⟨1, _⟩ => show 0 + 1 * j.val = j.val; omega
  | ⟨2, _⟩ => show 0 + 1 * d.val = d.val; omega

end Cert.Proof

end
-- ==== Proof.Mask.lean ====
/- The mask: which columns a row attends to. Both programs compute it from the row's and the column's halves. -/
module

public import proofs.«01_k».proof.Proof.Head
public import proofs.«01_k».proof.Proof.Gen.ReferenceIdeal

@[expose] public section

noncomputable section

namespace Cert.Proof

open Idealize.ShloMosaic Idealize.ShloMosaic.ValueIdx

/-- The half a position lies in. -/
abbrev half (i : Fin 128) : BitVec 32 := if i.val < 64 then 0#32 else 1#32

/-- All but the second half's columns from the first half's rows. -/
abbrev maskOf (i j : Fin 128) : BitVec 1 := if i.val < 64 ∧ ¬ j.val < 64 then 0#1 else 1#1

/-- Every row attends to the first column. -/
theorem maskOf_zero (i : Fin 128) : maskOf i 0 = 1#1 := if_neg fun h => h.2 (by show (0 : ℕ) < 64; omega)

/-! ## The kernel's -/

section

open Cert.Kernel Cert.Kernel.Gen

/-- The quotient by 64, from the quotient and the sign corrections. -/
abbrev floorWord (x : BitVec 32) : BitVec 32 :=
  Scalar.select (IntOp.andi
    (IntOp.cmpi .ne (IntOp.subi (Scalar.extui (IntOp.cmpi .sgt x 0#32)) (Scalar.extui (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

theorem floorWord_of : ∀ i : Fin 128, floorWord (BitVec.ofNat 32 i.val) = half i := by decide +kernel

/-- The mask from the two halves. -/
abbrev maskWord (q k : BitVec 32) : BitVec 1 :=
  have r := IntOp.remsi .vector (IntOp.addi q k) (Scalar.select (Scalar.cmpi .eq 3#32 0#32) 1#32 3#32)
  IntOp.ori (IntOp.ori (IntOp.cmpi .eq q k) (IntOp.cmpi .eq k 0#32))
    (IntOp.cmpi .eq (Scalar.select (IntOp.andi (IntOp.xori (IntOp.cmpi .slt r 0#32) (Scalar.cmpi .slt (Scalar.select (Scalar.cmpi .eq 3#32 0#32) 1#32 3#32) 0#32)) (IntOp.cmpi .ne r 0#32))
      (IntOp.addi r (Scalar.select (Scalar.cmpi .eq 3#32 0#32) 1#32 3#32)) r) 0#32)

theorem maskWord_half (i j : Fin 128) : maskWord (half i) (half j) = maskOf i j := by
  unfold half maskOf
  by_cases hi : i.val < 64 <;> by_cases hj : j.val < 64
  · rw [if_pos hi, if_pos hj, if_neg fun h => h.2 hj]; decide +kernel
  · rw [if_pos hi, if_neg hj, if_pos ⟨hi, hj⟩]; decide +kernel
  · rw [if_neg hi, if_pos hj, if_neg fun h => h.2 hj]; decide +kernel
  · rw [if_neg hi, if_neg hj, if_neg fun h => hi h.1]; decide +kernel

theorem maskW_at (i j : Fin 128) : maskW (ix2 i j) = maskOf i j := by
  have h0 : iota .tc S128x128 32 [0] iota_S128x128_d0_w32 (ix2 i j) = BitVec.ofNat 32 i.val := iota_single_apply _ _ _ _ _ _
  have h1 : iota .tc S128x128 32 [1] iota_S128x128_d1_w32 (ix2 i j) = BitVec.ofNat 32 j.val := iota_single_apply _ _ _ _ _ _
  refine Eq.trans (b := maskWord (floorWord (iota .tc S128x128 32 [0] iota_S128x128_d0_w32 (ix2 i j))) (floorWord (iota .tc S128x128 32 [1] iota_S128x128_d1_w32 (ix2 i j)))) ?_ ?_
  · unfold maskW k0_pay6 k0_pay3 k0_pay4 k0_pay5
    rfl
  · rw [h0, h1, floorWord_of, floorWord_of, maskWord_half]

end

/-! ## The reference's -/

namespace Ref

open Cert.ReferenceIdeal Cert.ReferenceIdeal.Gen

/-- The halves of the 128 positions. -/
def halves : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

def rowsHalf : IVec S128x128 32 := broadcastInDim S128x128 ![0, 1] bcast_S128x1_S128x128_0_1 (broadcastInDim S128x1 ![0] bcast_S128_S128x1_0 halves)
def colHalf : IVec S1x128 32 := broadcastInDim S1x128 ![1] bcast_S128_S1x128_1 halves
def colsHalf : IVec S128x128 32 := broadcastInDim S128x128 ![0, 1] bcast_S1x128_S128x128_0_1 colHalf

/-- The divisor three. -/
def three : IVec S_ 32 := select (cmpi .eq (id (constantI S_ 32 3#32)) (constantI S_ 32 0#32)) (constantI S_ 32 1#32) (id (constantI S_ 32 3#32))
def rest : IVec S128x128 32 := Host.remsi (addi rowsHalf colsHalf) (broadcastInDim S128x128 ![] bcast_S_S128x128 three)

/-- The sum of the halves modulo three. -/
def modThree : IVec S128x128 32 :=
  select (andi (cmpi .ne (cmpi .slt rest (broadcastInDim S128x128 ![] bcast_S_S128x128 (constantI S_ 32 0#32))) (broadcastInDim S128x128 ![] bcast_S_S128x128 (cmpi .slt three (constantI S_ 32 0#32)))) (cmpi .ne rest (broadcastInDim S128x128 ![] bcast_S_S128x128 (constantI S_ 32 0#32)))) (addi rest (broadcastInDim S128x128 ![] bcast_S_S128x128 three)) rest

/-- The mask. -/
def mask : IVec S128x128 1 :=
  ori (ori (cmpi .eq rowsHalf colsHalf) (broadcastInDim S128x128 ![0, 1] bcast_S1x128_S128x128_0_1 (cmpi .eq colHalf (broadcastInDim S1x128 ![] bcast_S_S1x128 (constantI S_ 32 0#32))))) (cmpi .eq modThree (broadcastInDim S128x128 ![] bcast_S_S128x128 (constantI S_ 32 0#32)))

/-- The rows with an attended column. -/
def keep : IVec S128 1 := Host.reduce IntOp.ori mask (constantI S_ 1 0#1) reducesTo_S128x128_S128_d1 h_S_

/-- The sign of a word. -/
abbrev signWord (x : BitVec 32) : BitVec 32 := if x = 0 then 0 else if x.msb then -1 else 1

/-- The quotient by 64 of a word. -/
abbrev floorWord (x : BitVec 32) : BitVec 32 :=
  Scalar.select (IntOp.andi (IntOp.cmpi .ne (signWord x) (signWord 64#32))
    (IntOp.cmpi .ne (IntOp.remsi .host x 64#32) 0#32)) (IntOp.subi (IntOp.divsi .host x 64#32) 1#32) (IntOp.divsi .host x 64#32)

theorem floorWord_of : ∀ i : Fin 128, floorWord (BitVec.ofNat 32 i.val) = half i := by decide +kernel

theorem halves_at (i : Fin 128) : halves (ix1 i) = half i := by
  refine Eq.trans (b := floorWord (iotaInDim S128 32 0 (ix1 i))) (by unfold halves; rfl) ?_
  exact floorWord_of i

theorem rowsHalf_at (i j : Fin 128) : rowsHalf (ix2 i j) = half i := by
  refine (broadcastInDim_apply _ _ _ _ (ix2 i 0) ?_).trans ((broadcastInDim_apply _ _ _ _ (ix1 i) ?_).trans (halves_at i))
  · intro a; match a with | ⟨0, _⟩ => rfl | ⟨1, _⟩ => rfl
  · intro a; match a with | ⟨0, _⟩ => rfl

theorem colHalf_at (j : Fin 128) : colHalf (ix2 0 j) = half j := by
  refine (broadcastInDim_apply _ _ _ _ (ix1 j) ?_).trans (halves_at j)
  intro a; match a with | ⟨0, _⟩ => rfl

/-- A row of 128, repeated down the rows. -/
theorem down_at {α : Type} (f : S1x128.Idx → α) (i j : Fin 128) : broadcastInDim S128x128 ![0, 1] bcast_S1x128_S128x128_0_1 f (ix2 i j) = f (ix2 0 j) := by
  refine broadcastInDim_apply _ _ _ _ (ix2 0 j) ?_
  intro a; match a with | ⟨0, _⟩ => rfl | ⟨1, _⟩ => rfl

/-- The mask from the two halves. -/
abbrev maskWord (q k : BitVec 32) : BitVec 1 :=
  have t := Scalar.select (IntOp.cmpi .eq 3#32 0#32) 1#32 3#32
  have r := IntOp.remsi .host (IntOp.addi q k) t
  IntOp.ori (IntOp.ori (IntOp.cmpi .eq q k) (IntOp.cmpi .eq k 0#32))
    (IntOp.cmpi .eq (Scalar.select (IntOp.andi (IntOp.cmpi .ne (IntOp.cmpi .slt r 0#32) (IntOp.cmpi .slt t 0#32)) (IntOp.cmpi .ne r 0#32)) (IntOp.addi r t) r) 0#32)

theorem maskWord_half (i j : Fin 128) : maskWord (half i) (half j) = maskOf i j := by
  unfold half maskOf
  by_cases hi : i.val < 64 <;> by_cases hj : j.val < 64
  · rw [if_pos hi, if_pos hj, if_neg fun h => h.2 hj]; decide +kernel
  · rw [if_pos hi, if_neg hj, if_pos ⟨hi, hj⟩]; decide +kernel
  · rw [if_neg hi, if_pos hj, if_neg fun h => h.2 hj]; decide +kernel
  · rw [if_neg hi, if_neg hj, if_neg fun h => hi h.1]; decide +kernel

theorem mask_at (i j : Fin 128) : mask (ix2 i j) = maskOf i j := by
  rw [← maskWord_half, ← rowsHalf_at i j, ← colHalf_at j, ← down_at colHalf i j]
  unfold mask modThree rest
  refine congr (congrArg IntOp.ori (congr (congrArg IntOp.ori rfl) (down_at _ i j))) rfl |>.trans ?_
  rw [down_at]
  rfl

theorem one_ori (z : BitVec 1) : IntOp.ori 1#1 z = 1#1 := by revert z; decide

theorem keep_at (i : Fin 128) : keep (ix1 i) = 1#1 := by
  have hr : S128x128.Reduces [1] S128 := by decide
  refine (Host.reduce_eq_fold_single IntOp.ori mask _ reducesTo_S128x128_S128_d1 hr h_S_ (ix1 i)).trans ?_
  have h0 : mask (hr.lift (ix1 i) (0 : Fin 128)) = 1#1 := by
    rw [show hr.lift (ix1 i) (0 : Fin 128) = ix2 i 0 from by funext a; match a with | ⟨0, _⟩ => rfl | ⟨1, _⟩ => rfl, mask_at, maskOf_zero]
  show Finset.fold IntOp.ori 0#1 (mask ∘ hr.lift (ix1 i)) (Finset.univ : Finset (Fin 128)) = 1#1
  rw [← Finset.insert_erase (Finset.mem_univ (0 : Fin 128))]
  refine (Finset.fold_insert (Finset.notMem_erase _ _)).trans ?_
  exact (congrArg (IntOp.ori · _) h0).trans (one_ori _)

end Ref

end Cert.Proof

end
-- ==== Proof.Ref.lean ====
/- The reference at an index: the heads of all columns, times the second factor. -/
module

public import proofs.«01_k».proof.Proof.Mask
public import proofs.«01_k».proof.Proof.Gen.ReferenceIdeal.Run

@[expose] public section

noncomputable section

namespace Cert.Proof.Ref

open Idealize.ShloMosaic Idealize.ShloMosaic.TcCoe Idealize.ShloMosaic.ValueIdx
open Cert.ReferenceIdeal Cert.ReferenceIdeal.Gen
open scoped BigOperators

/-- Column `d` of head `h`, of 4096. -/
abbrev col (h d : Fin 64) : Fin 4096 := ⟨h.val * 64 + d.val, by have := h.isLt; have := d.isLt; omega⟩

variable (X : FVec Ideal S32x128x512 .bf16) (Wq : FVec Ideal S512x4096 .bf16) (K V : FVec Ideal S32x128x64x64 .bf16) (Wo : FVec Ideal S4096x512 .bf16)

/-! ## The program's values -/

def q : FVec Ideal S32x128x64x64 .f32 :=
  shapeCast _ (Host.dotGeneral dot_S32x128x512_S512x4096_S32x128x4096_2_0_01_1_n_n none (extf .f32 X bitsLt_bf16_f32) (extf .f32 Wq bitsLt_bf16_f32)) shapeCasts_S32x128x4096_S32x128x64x64

def scores : FVec Ideal S32x64x128x128 .f32 :=
  select (broadcastInDim S32x64x128x128 ![0, 1, 2, 3] bcast_S1x1x128x128_S32x64x128x128_0_1_2_3 (broadcastInDim S1x1x128x128 ![2, 3] bcast_S128x128_S1x1x128x128_2_3 mask)) (mulf (Host.dotGeneral dot_S32x128x64x64_S32x128x64x64_S32x64x128x128_3_3_1_1_02_02 none (q X Wq) (extf .f32 K bitsLt_bf16_f32)) (broadcastInDim S32x64x128x128 ![] bcast_S_S32x64x128x128 (constant S_ .f32 0x3E000000#32))) (broadcastInDim S32x64x128x128 ![] bcast_S_S32x64x128x128 (id (constant S_ .f32 0xCE6E6B28#32)))

variable (s : FVec Ideal S32x64x128x128 .f32)

def tops : FVec Ideal S32x64x128 .f32 := Host.reduce FloatOps.maximumf s (constant S_ .f32 0xFF800000#32) reducesTo_S32x64x128x128_S32x64x128_d3 h_S_

def exps : FVec Ideal S32x64x128x128 .f32 :=
  Host.exp (subf s (broadcastInDim S32x64x128x128 ![0, 1, 2, 3] bcast_S32x64x128x1_S32x64x128x128_0_1_2_3 (broadcastInDim S32x64x128x1 ![0, 1, 2] bcast_S32x64x128_S32x64x128x1_0_1_2 (tops s))))

def sums : FVec Ideal S32x64x128x1 .f32 :=
  select (broadcastInDim S32x64x128x1 ![0, 1, 2, 3] bcast_S1x1x128x1_S32x64x128x1_0_1_2_3 (broadcastInDim S1x1x128x1 ![2] bcast_S128_S1x1x128x1_2 keep)) (broadcastInDim S32x64x128x1 ![0, 1, 2] bcast_S32x64x128_S32x64x128x1_0_1_2 (Host.reduceAdd (exps s) (constant S_ .f32 0x00000000#32) reducesTo_S32x64x128x128_S32x64x128_d3 h_S_)) (broadcastInDim S32x64x128x1 ![] bcast_S_S32x64x128x1 (id (constant S_ .f32 0x3F800000#32)))

def weights : FVec Ideal S32x64x128x128 .f32 :=
  select (broadcastInDim S32x64x128x128 ![0, 1, 2, 3] bcast_S1x1x128x1_S32x64x128x128_0_1_2_3 (broadcastInDim S1x1x128x1 ![2] bcast_S128_S1x1x128x1_2 keep)) (Host.divf (exps s) (broadcastInDim S32x64x128x128 ![0, 1, 2, 3] bcast_S32x64x128x1_S32x64x128x128_0_1_2_3 (sums s))) (broadcastInDim S32x64x128x128 ![] bcast_S_S32x64x128x128 (id (constant S_ .f32 0x00000000#32)))

def ctx : FVec Ideal S32x128x4096 .f32 :=
  shapeCast _ (transpose S32x128x64x64 [0, 3, 1, 2] (Host.dotGeneral dot_S32x128x64x64_S32x64x128x128_S32x64x64x128_1_3_3_2_02_01 none (extf .f32 V bitsLt_bf16_f32) (weights s)) transposes_S32x64x64x128_S32x128x64x64_0_3_1_2) shapeCasts_S32x128x64x64_S32x128x4096

def out : FVec Ideal S32x128x512 .f32 :=
  Host.dotGeneral dot_S32x128x4096_S4096x512_S32x128x512_2_0_01_1_n_n none (ctx V (scores X Wq K)) (extf .f32 Wo bitsLt_bf16_f32)

set_option maxRecDepth 100000 in
/-- What the reference's run ends with. -/
theorem res_eq (m : (ℓ : Loc nD τ sig) → Buf (Elt Ideal) ℓ) (c : Dev nD) :
    Cert.ReferenceIdeal.Value.res_main_v49 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v49
  rfl

/-! ## The same at an index -/

variable (B : Fin 32) (h : Fin 64) (i j : Fin 128) (d : Fin 64)

theorem q_at : q X Wq (ix4 B i h d) = ∑ e : Fin 512, X (ix3 B i e) * Wq (ix2 e (col h d)) := by
  unfold q
  refine (shapeCast_apply _ _ _ (ix3 B i (col h d)) ?_).trans ?_
  · rw [Shape.rowMajor_val_four, Shape.rowMajor_val_three]
    show (B.val * 128 + i.val) * 4096 + (h.val * 64 + d.val) = ((B.val * 128 + i.val) * 64 + h.val) * 64 + d.val
    omega
  refine (Ideal.dotGeneral_apply _ none _ _ _ _).trans ?_
  let D := dot_S32x128x512_S512x4096_S32x128x4096_2_0_01_1_n_n
  have hr : D.contr.rank = 1 := rfl
  have hs : D.contr.size ⟨0, by omega⟩ = 512 := rfl
  rw [← Equiv.sum_comp (contrEquiv1 D 512 hr hs).symm]
  refine Finset.sum_congr rfl fun e _ => ?_
  have he := contrEquiv1_symm_val D 512 hr hs e
  have el : D.lhsIdx (ix3 B i (col h d)) ((contrEquiv1 D 512 hr hs).symm e) = ix3 B i e := by
    funext a; apply Fin.ext
    match a with | ⟨0, _⟩ => rfl | ⟨1, _⟩ => rfl | ⟨2, _⟩ => exact he
  have er : D.rhsIdx (ix3 B i (col h d)) ((contrEquiv1 D 512 hr hs).symm e) = ix2 e (col h d) := by
    funext a; apply Fin.ext
    match a with | ⟨0, _⟩ => exact he | ⟨1, _⟩ => rfl
  rw [el, er]
  rfl

theorem dotT_at (l r : FVec Ideal S32x128x64x64 .f32) :
    Host.dotGeneral dot_S32x128x64x64_S32x128x64x64_S32x64x128x128_3_3_1_1_02_02 none l r (ix4 B h i j) = ∑ e : Fin 64, l (ix4 B i h e) * r (ix4 B j h e) := by
  refine (Ideal.dotGeneral_apply _ none _ _ _ _).trans ?_
  let D := dot_S32x128x64x64_S32x128x64x64_S32x64x128x128_3_3_1_1_02_02
  have hr : D.contr.rank = 1 := rfl
  have hs : D.contr.size ⟨0, by omega⟩ = 64 := rfl
  rw [← Equiv.sum_comp (contrEquiv1 D 64 hr hs).symm]
  refine Finset.sum_congr rfl fun e _ => ?_
  have he := contrEquiv1_symm_val D 64 hr hs e
  have el : D.lhsIdx (ix4 B h i j) ((contrEquiv1 D 64 hr hs).symm e) = ix4 B i h e := by
    funext a; apply Fin.ext
    match a with | ⟨0, _⟩ => rfl | ⟨1, _⟩ => rfl | ⟨2, _⟩ => rfl | ⟨3, _⟩ => exact he
  have er : D.rhsIdx (ix4 B h i j) ((contrEquiv1 D 64 hr hs).symm e) = ix4 B j h e := by
    funext a; apply Fin.ext
    match a with | ⟨0, _⟩ => rfl | ⟨1, _⟩ => rfl | ⟨2, _⟩ => rfl | ⟨3, _⟩ => exact he
  rw [el, er]

theorem dotP_at (l : FVec Ideal S32x128x64x64 .f32) (r : FVec Ideal S32x64x128x128 .f32) :
    Host.dotGeneral dot_S32x128x64x64_S32x64x128x128_S32x64x64x128_1_3_3_2_02_01 none l r (ix4 B h d i) = ∑ j : Fin 128, l (ix4 B j h d) * r (ix4 B h i j) := by
  refine (Ideal.dotGeneral_apply _ none _ _ _ _).trans ?_
  let D := dot_S32x128x64x64_S32x64x128x128_S32x64x64x128_1_3_3_2_02_01
  have hr : D.contr.rank = 1 := rfl
  have hs : D.contr.size ⟨0, by omega⟩ = 128 := rfl
  rw [← Equiv.sum_comp (contrEquiv1 D 128 hr hs).symm]
  refine Finset.sum_congr rfl fun e _ => ?_
  have he := contrEquiv1_symm_val D 128 hr hs e
  have el : D.lhsIdx (ix4 B h d i) ((contrEquiv1 D 128 hr hs).symm e) = ix4 B e h d := by
    funext a; apply Fin.ext
    match a with | ⟨0, _⟩ => rfl | ⟨1, _⟩ => exact he | ⟨2, _⟩ => rfl | ⟨3, _⟩ => rfl
  have er : D.rhsIdx (ix4 B h d i) ((contrEquiv1 D 128 hr hs).symm e) = ix4 B h i e := by
    funext a; apply Fin.ext
    match a with | ⟨0, _⟩ => rfl | ⟨1, _⟩ => rfl | ⟨2, _⟩ => rfl | ⟨3, _⟩ => exact he
  rw [el, er]

theorem mask4_at : broadcastInDim S32x64x128x128 ![0, 1, 2, 3] bcast_S1x1x128x128_S32x64x128x128_0_1_2_3
    (broadcastInDim S1x1x128x128 ![2, 3] bcast_S128x128_S1x1x128x128_2_3 mask) (ix4 B h i j) = maskOf i j := by
  refine (broadcastInDim_apply _ _ _ _ (ix4 0 0 i j) ?_).trans ((broadcastInDim_apply _ _ _ _ (ix2 i j) ?_).trans (mask_at i j))
  · intro a; match a with | ⟨0, _⟩ => rfl | ⟨1, _⟩ => rfl | ⟨2, _⟩ => rfl | ⟨3, _⟩ => rfl
  · intro a; match a with | ⟨0, _⟩ => rfl | ⟨1, _⟩ => rfl

theorem scores_at : scores X Wq K (ix4 B h i j)
    = score maskOf (fun i d => ∑ e : Fin 512, X (ix3 B i e) * Wq (ix2 e (col h d))) (fun j d => K (ix4 B j h d)) i j := by
  unfold scores score
  refine congr (congr (congrArg Scalar.select (mask4_at B h i j)) ?_) rfl
  refine congrArg (· * Ideal.ofBits .f32 0x3E000000#32) ((dotT_at B h i j _ _).trans ?_)
  exact Finset.sum_congr rfl fun e _ => congrArg (· * K (ix4 B j h e)) (q_at X Wq B h i e)

theorem keep4_at : broadcastInDim S32x64x128x128 ![0, 1, 2, 3] bcast_S1x1x128x1_S32x64x128x128_0_1_2_3
    (broadcastInDim S1x1x128x1 ![2] bcast_S128_S1x1x128x1_2 keep) (ix4 B h i j) = 1#1 := by
  refine (broadcastInDim_apply _ _ _ _ (ix4 0 0 i 0) ?_).trans ((broadcastInDim_apply _ _ _ _ (ix1 i) ?_).trans (keep_at i))
  · intro a; match a with | ⟨0, _⟩ => rfl | ⟨1, _⟩ => rfl | ⟨2, _⟩ => rfl | ⟨3, _⟩ => rfl
  · intro a; match a with | ⟨0, _⟩ => rfl

theorem keep3_at : broadcastInDim S32x64x128x1 ![0, 1, 2, 3] bcast_S1x1x128x1_S32x64x128x1_0_1_2_3
    (broadcastInDim S1x1x128x1 ![2] bcast_S128_S1x1x128x1_2 keep) (ix4 B h i 0) = 1#1 := by
  refine (broadcastInDim_apply _ _ _ _ (ix4 0 0 i 0) ?_).trans ((broadcastInDim_apply _ _ _ _ (ix1 i) ?_).trans (keep_at i))
  · intro a; match a with | ⟨0, _⟩ => rfl | ⟨1, _⟩ => rfl | ⟨2, _⟩ => rfl | ⟨3, _⟩ => rfl
  · intro a; match a with | ⟨0, _⟩ => rfl

theorem unit_at (f : FVec Ideal S32x64x128 .f32) : broadcastInDim S32x64x128x1 ![0, 1, 2] bcast_S32x64x128_S32x64x128x1_0_1_2 f (ix4 B h i 0) = f (ix3 B h i) := by
  refine broadcastInDim_apply _ _ _ _ (ix3 B h i) ?_
  intro a; match a with | ⟨0, _⟩ => rfl | ⟨1, _⟩ => rfl | ⟨2, _⟩ => rfl

theorem along_at (f : FVec Ideal S32x64x128x1 .f32) : broadcastInDim S32x64x128x128 ![0, 1, 2, 3] bcast_S32x64x128x1_S32x64x128x128_0_1_2_3 f (ix4 B h i j) = f (ix4 B h i 0) := by
  refine broadcastInDim_apply _ _ _ _ (ix4 B h i 0) ?_
  intro a; match a with | ⟨0, _⟩ => rfl | ⟨1, _⟩ => rfl | ⟨2, _⟩ => rfl | ⟨3, _⟩ => rfl

theorem lift_ix4 (hr : S32x64x128x128.Reduces [3] S32x64x128) : hr.lift (ix3 B h i) j = ix4 B h i j := by
  funext a; match a with | ⟨0, _⟩ => rfl | ⟨1, _⟩ => rfl | ⟨2, _⟩ => rfl | ⟨3, _⟩ => rfl

theorem reduces4 : S32x64x128x128.Reduces [3] S32x64x128 := by decide

/-- A choice where the condition holds. -/
theorem select_on {t : Shape} {α : Type} (c : IVec t 1) (x y : t.Idx → α) (i : t.Idx) (hc : c i = 1#1) : select c x y i = x i := by
  rw [select_apply, hc, select_one]

theorem tops_at : tops s (ix3 B h i) = top (fun l => s (ix4 B h i l)) := by
  refine (Host.reduce_eq_fold_single _ s _ reducesTo_S32x64x128x128_S32x64x128_d3 reduces4 h_S_ (ix3 B h i)).trans ?_
  exact congrArg (Finset.fold max (Ideal.ofBits .f32 0xFF800000#32) · Finset.univ) (funext fun l => congrArg s (lift_ix4 B h i l _))

theorem exps_at : exps s (ix4 B h i j) = Ideal.exp (s (ix4 B h i j) - top (fun l => s (ix4 B h i l))) := by
  refine congrArg (fun z => Ideal.exp (s (ix4 B h i j) - z)) ?_
  exact (along_at B h i j _).trans ((unit_at B h i _).trans (tops_at s B h i))

/-- The sum of a row. -/
theorem sumRow_at (f : FVec Ideal S32x64x128x128 .f32) :
    Host.reduceAdd f (constant S_ .f32 0x00000000#32) reducesTo_S32x64x128x128_S32x64x128_d3 h_S_ (ix3 B h i) = ∑ l, f (ix4 B h i l) := by
  unfold Host.reduceAdd
  refine (Ideal.hostReduceAdd_single reducesTo_S32x64x128x128_S32x64x128_d3 reduces4 f _ (ix3 B h i)).trans ?_
  rw [show constant (F := Ideal) S_ .f32 0x00000000#32 (Shape.Idx.first h_S_) = 0 from Ideal.ofBits_zero_f32, zero_add]
  exact Finset.sum_congr rfl fun l _ => congrArg f (lift_ix4 B h i l _)

theorem sums_at : sums s (ix4 B h i 0) = ∑ l, Ideal.exp (s (ix4 B h i l) - top (fun l => s (ix4 B h i l))) := by
  unfold sums
  refine (select_on _ _ _ _ (keep3_at B h i)).trans ((unit_at B h i _).trans ?_)
  exact (sumRow_at B h i (exps s)).trans (Finset.sum_congr rfl fun l _ => exps_at s B h i l)

/-- A quotient at an index. -/
theorem quotient_at {t : Shape} {φ : FTy} (x y : FVec Ideal t φ) (i : t.Idx) : Host.divf x y i = Ideal.div (x i) (y i) := rfl

theorem divided_at : Host.divf (exps s) (broadcastInDim S32x64x128x128 ![0, 1, 2, 3] bcast_S32x64x128x1_S32x64x128x128_0_1_2_3 (sums s)) (ix4 B h i j)
    = soft (fun l => s (ix4 B h i l)) j := by
  have he := exps_at s B h i j
  have hs := (along_at B h i j (sums s)).trans (sums_at s B h i)
  rw [quotient_at, he, hs, soft]

theorem weights_at : weights s (ix4 B h i j) = soft (fun l => s (ix4 B h i l)) j := by
  unfold weights
  exact (select_on _ _ _ _ (keep4_at B h i j)).trans (divided_at s B h i j)

theorem ctx_at : ctx V s (ix3 B i (col h d)) = ∑ j, soft (fun l => s (ix4 B h i l)) j * V (ix4 B j h d) := by
  unfold ctx
  refine (shapeCast_apply _ _ _ (ix4 B i h d) ?_).trans ?_
  · rw [Shape.rowMajor_val_four, Shape.rowMajor_val_three]
    show ((B.val * 128 + i.val) * 64 + h.val) * 64 + d.val = (B.val * 128 + i.val) * 4096 + (h.val * 64 + d.val)
    omega
  refine (transpose_apply _ _ _ _ (ix4 B h d i) ?_).trans ?_
  · intro c; match c with | ⟨0, _⟩ => rfl | ⟨1, _⟩ => rfl | ⟨2, _⟩ => rfl | ⟨3, _⟩ => rfl
  refine (dotP_at B h i d _ _).trans (Finset.sum_congr rfl fun j _ => ?_)
  rw [weights_at]
  exact mul_comm _ _

/-- A column of 4096 by its head and coordinate. -/
theorem sum_cols {M : Type*} [AddCommMonoid M] (f : Fin 4096 → M) : ∑ n, f n = ∑ h : Fin 64, ∑ d : Fin 64, f (col h d) := by
  rw [← Equiv.sum_comp (finProdFinEquiv : Fin 64 × Fin 64 ≃ Fin 4096) f, Fintype.sum_prod_type]
  refine Finset.sum_congr rfl fun h _ => Finset.sum_congr rfl fun d _ => congrArg f (Fin.ext ?_)
  show d.val + 64 * h.val = h.val * 64 + d.val
  omega

/-- The reference's result. -/
theorem out_at (c : Fin 512) : out X Wq K V Wo (ix3 B i c) = ∑ h : Fin 64, ∑ d : Fin 64,
    att maskOf (fun i d => ∑ e : Fin 512, X (ix3 B i e) * Wq (ix2 e (col h d))) (fun j d => K (ix4 B j h d)) (fun j d => V (ix4 B j h d)) i d * Wo (ix2 (col h d) c) := by
  unfold out
  refine (Ideal.dotGeneral_apply _ none _ _ _ _).trans ?_
  let D := dot_S32x128x4096_S4096x512_S32x128x512_2_0_01_1_n_n
  have hr : D.contr.rank = 1 := rfl
  have hs : D.contr.size ⟨0, by omega⟩ = 4096 := rfl
  rw [← Equiv.sum_comp (contrEquiv1 D 4096 hr hs).symm, sum_cols]
  refine Finset.sum_congr rfl fun h _ => Finset.sum_congr rfl fun d _ => ?_
  have he := contrEquiv1_symm_val D 4096 hr hs (col h d)
  have el : D.lhsIdx (ix3 B i c) ((contrEquiv1 D 4096 hr hs).symm (col h d)) = ix3 B i (col h d) := by
    funext a; apply Fin.ext
    match a with | ⟨0, _⟩ => rfl | ⟨1, _⟩ => rfl | ⟨2, _⟩ => exact he
  have er : D.rhsIdx (ix3 B i c) ((contrEquiv1 D 4096 hr hs).symm (col h d)) = ix2 (col h d) c := by
    funext a; apply Fin.ext
    match a with | ⟨0, _⟩ => exact he | ⟨1, _⟩ => rfl
  rw [el, er]
  refine congrArg (· * Wo (ix2 (col h d) c)) ((ctx_at V _ B h i d).trans ?_)
  unfold att
  exact Finset.sum_congr rfl fun j _ => congrArg (fun z => soft z j * V (ix4 B j h d)) (funext fun l => scores_at X Wq K B h i l)

end Cert.Proof.Ref

end
-- ==== Proof.Whole.lean ====
/- The whole body of one device, from the first barrier to the stored result. -/
module

public import proofs.«01_k».proof.Proof.Out

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)
variable (c : Dev nD)
variable (c : Dev nD)

set_option maxHeartbeats 2000000 in
/-- The body of device `c` takes the bundle before the first barrier to the one that holds the result. -/
theorem body_run {Q : _ → sProp 𝕄} (hQ : Done m K c (outAt m c) ⊢ Q ⟨⟩) : Bar m K c 0 ⊢ Wp c (onArgs (cc0_body (F := F))) Q := by
  rw [cc0_body_eq_skeleton]
  unfold onArgs cc0_body_skel
  refine (?_ : _ ⊢ wp _ _ _ (_ >>= _) Q)
  rw [wp_bind]; refine part1 m K c fun v2 v3 v4 v7 v10 v12 v15 => ?_
  try dsimp only
  rw [wp_bind]; refine part2 m K c _ fun v58 v69 h58 h69 => ?_
  subst h58 h69
  try dsimp only
  rw [wp_bind]; refine part3 c _ _ _ _ _ _ _ ?_
  rw [wp_bind]; refine part4 m K c _ _ _ _ ?_
  try dsimp only
  rw [wp_bind]; refine part5 m K c _ _ _ _ _ _ fun _ => ?_
  try dsimp only
  rw [wp_bind]; refine part6 m K c _ _ _ ?_
  try dsimp only
  rw [wp_bind]; refine part7 m K c _ _ fun _ _ => ?_
  try dsimp only
  rw [wp_bind]; refine part8 m K c _ _ _ ?_
  try dsimp only
  rw [wp_bind]; refine part9 m K c _ _ _ _ _ _ _ ?_
  try dsimp only
  rw [wp_bind]; refine part10 m K c _ _ _ _ _ _ _ ?_
  try dsimp only
  rw [wp_bind]; refine part11 m K c _ _ _ _ _ _ _ fun _ => ?_
  try dsimp only
  rw [wp_bind]; refine part12 m K c _ _ fun _ => ?_
  try dsimp only
  rw [wp_bind]; refine part13 m K c _ _ _ fun _ => ?_
  try dsimp only
  rw [wp_bind]; refine part14 m K c _ _ _ _ _ _ _ ?_
  try dsimp only
  rw [wp_bind]; refine part15 m K c _ _ _ _ _ _ _ ?_
  try dsimp only
  rw [wp_bind]; refine part16 m K c _ _ _ _ _ _ _ fun _ => ?_
  try dsimp only
  rw [wp_bind]; refine part17 m K c _ _ _ fun _ => ?_
  try dsimp only
  rw [wp_bind]; refine part18 m K c _ _ _ fun _ => ?_
  try dsimp only
  rw [wp_bind]; refine part19 m K c _ _ _ _ _ _ _ _ ?_
  try dsimp only
  rw [wp_bind]; refine part20 m K c _ _ _ _ _ _ _ _ ?_
  try dsimp only
  rw [wp_bind]; refine part21 m K c _ _ _ _ _ _ _ _ fun _ => ?_
  try dsimp only
  rw [wp_bind]; refine part22 m K c _ _ _ _ fun _ => ?_
  try dsimp only
  rw [wp_bind]; refine part23 m K c _ _ _ _ _ _ _ _ ?_
  try dsimp only
  rw [wp_bind]; refine part24 m K c _ _ _ _ _ _ _ _ _ fun _ _ _ => ?_
  try dsimp only
  rw [wp_bind]; refine part25 m K c _ _ _ _ ?_
  try dsimp only
  rw [wp_bind]; refine part26 m K c _ _ _ _ _ _ _ _ ?_
  try dsimp only
  rw [wp_bind]; refine part27 m K c _ _ _ _ _ _ _ fun _ => ?_
  try dsimp only
  rw [wp_bind]; refine part28 m K c _ _ _ _ ?_
  try dsimp only
  rw [wp_bind]; refine part29 m K c _ _ _ _ _ ?_
  try dsimp only
  rw [wp_bind]; refine part30 m K c _ _ _ _ _ _ ?_
  try dsimp only
  rw [wp_bind]; refine part31 m K c ?_
  try dsimp only
  rw [wp_bind]; refine part32 m K c ?_
  try dsimp only
  rw [wp_bind]; refine part33 m K c _ fun _ => ?_
  simp only [semSignalWord, semWaitWord, Prog.lift, Prog.bind_op, Prog.bind_ret, Prog.pure_eq_ret]
  refine next (step_fin m K c 1 rfl (dev21 c) rfl) ?_
  refine next (step_fin m K c 2 rfl (dev22 c) rfl) ?_
  refine next (step_fin m K c 3 rfl (dev23 c) rfl) ?_
  refine next (step_finWait m K c rfl) ?_
  refine step_out m K c fun _ => ?_
  refine next (step_store m K c _) ?_
  refine BI.Entails.trans ?_ (le_wp_ret _ _ _ _ _)
  simp only [add15, add0, add1, add2, add3, add4, add5, add6, add7, add8, add9, add10, add11, add12, add13, add14]
  exact hQ

end Cert.Proof
-- ==== Proof.Enter.lean ====
/- Into the body and out of it: from what the launch deals a device, its cells opened and its gathered buffer in slots, to
   the bundle the body starts from; and from the bundle it ends with to the counters at zero and the buffer whole again. -/
module

public import proofs.«01_k».proof.Proof.Whole

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)
variable (c : Dev nD)

/-! ## What the launch deals -/

/-- The duties device `c` pays. -/
def toks : sProp 𝕄 :=
  iprop((bigSep Finset.univ fun d : Fin 4 => dutyTok ER (cell (nbr c d) .bar) 0 d)
    ∗ (bigSep Finset.univ fun d : Fin 4 => dutyTok ER (cell (nbr c d) .fin) 0 d)
    ∗ (bigSep Finset.univ fun k : Fin 15 => dutyTok ER (cell c (.send k)) 0 0)
    ∗ bigSep Finset.univ fun k : Fin 15 => dutyTok ER (cell (dst c k) (.recv k)) 0 0)

/-- What the other devices owe it. -/
def creds : sProp 𝕄 :=
  iprop(cred (tallyAt (cell c .bar) () 4) ∗ cred (tallyAt (cell c .fin) () 4)
    ∗ bigSep Finset.univ fun k : Fin 15 => cred (tallyAt (cell c (.recv k)) () N))

/-- The cells that live while the kernel runs, still to be opened. -/
def dealt : sProp 𝕄 :=
  iprop((records m K ∗ atPos ER (cell c .bar) 0 ∅ 0 ∗ (bigSep Finset.univ fun s : Sc => openTok ER (cell c (scKd s))) ∗ toks c) ∗ creds c)

/-- The same cells opened. -/
def opened : sProp 𝕄 :=
  iprop((records m K ∗ atPos ER (cell c .bar) 0 ∅ 0
    ∗ (bigSep Finset.univ fun s : Sc => iprop(atPos ER (cell c (scKd s)) 0 ∅ 0 ∗ reached ER (cell c (scKd s)) 0)) ∗ toks c) ∗ creds c)

/-- The kernel's own semaphores. -/
def osem (s : Sc) : SemLoc sig := (scKd s).loc

theorem open_one (s : Sc) : iprop(records m K ∗ openTok ER (cell c (scKd s)) ∗ semVal ((c : Thread nD τ), osem s) 0)
    ⊢ (|={Set.univ}=> iprop(atPos ER (cell c (scKd s)) 0 ∅ 0 ∗ reached ER (cell c (scKd s)) 0) : sProp 𝕄) := by
  iintro ⟨#HI, Ho, Hs⟩
  iapply (Rounds.cell_open ER (rd m) (g := cell c (scKd s)) (Set.mem_univ (K (cell c (scKd s)))))
  isplitr; · iapply (inv_at m K c (scKd s)); iexact HI
  isplitl [Ho]; · iexact Ho
  iexact Hs

theorem open_all : iprop(records m K ∗ (bigSep Finset.univ fun s : Sc => openTok ER (cell c (scKd s))) ∗ Pipeline.ownSems0 osem c)
    ⊢ (|={Set.univ}=> bigSep Finset.univ fun s : Sc => iprop(atPos ER (cell c (scKd s)) 0 ∅ 0 ∗ reached ER (cell c (scKd s)) 0) : sProp 𝕄) := by
  refine BIBase.Entails.trans ?_ (bigSep_fupd _ _)
  refine BIBase.Entails.trans ?_ (bigSep_with_persistent (R := records m K) (fun s _ => open_one m K c s))
  unfold Pipeline.ownSems0
  rw [bigSep_sep']

/-! ## The gathered buffer and its slots -/

omit [FloatOps F] in
theorem full_slots (f : (cc0_scratch0 : Ref sig .tc).ty.Contents (Elt F)) : (full c cc0_scratch0 f : sProp 𝕄) = bigSep Finset.univ fun b : Dev nD => slotPts (F := F) c b fullShare f := by
  unfold full slotPts
  rw [← slot_cover]
  exact pointsTo_biUnion _ _ fun b _ b' _ hne => slot_disjoint hne

omit [FloatOps F] in
theorem to_slots : iprop(∃ f, full c cc0_scratch0 f) ⊢ (bigSep Finset.univ fun b : Dev nD => iprop(∃ f, slotPts (F := F) c b fullShare f) : sProp 𝕄) := by
  have h (f : (cc0_scratch0 : Ref sig .tc).ty.Contents (Elt F)) : (full c cc0_scratch0 f : sProp 𝕄)
      ⊢ bigSep Finset.univ fun b : Dev nD => iprop(∃ f, slotPts (F := F) c b fullShare f) := by
    rw [full_slots]
    refine bigSep_mono fun b _ => ?_
    show BIBase.Entails (PROP := sProp 𝕄) _ _
    iintro H; iexists f; iexact H
  iintro ⟨%f, H⟩
  iapply (h f); iexact H

theorem pieces_slot (a : Fin 16) : (bigSep Finset.univ fun i : Fin 4 => piece m c (a, i)) ⊢ (slotPts c (slotEquiv c a) fullShare (G m) : sProp 𝕄) := by
  rw [show slotEquiv c a = slotOf c a from rfl]
  unfold piece
  dsimp only
  generalize G m = f
  exact (slot_quarters c (slotOf c a) f).2

theorem pieces_slots : bigSep Finset.univ (piece m c) ⊢ (bigSep Finset.univ fun b : Dev nD => slotPts (F := F) c b fullShare (G m) : sProp 𝕄) := by
  rw [bigSep_univ_prod, bigSep_univ_equiv (slotEquiv c) (fun b : Dev nD => (slotPts (F := F) c b fullShare (G m) : sProp 𝕄))]
  exact bigSep_mono fun a _ => pieces_slot m c a

theorem from_pieces : bigSep Finset.univ (piece m c) ⊢ (iprop(∃ f, full c cc0_scratch0 f) : sProp 𝕄) := by
  iintro H
  ihave H := pieces_slots m c $$ H
  iexists G m
  iapply (Entails.of_eq (full_slots c (G m)).symm); iexact H

omit [FloatOps F] in
/-- The slots by source: the own one, and the fifteen filled by transfers. -/
theorem sort_slots : (bigSep Finset.univ fun b : Dev nD => iprop(∃ f, slotPts (F := F) c b fullShare f) : sProp 𝕄)
    ⊢ iprop((∃ f, slotPts c c fullShare f) ∗ bigSep Finset.univ fun k : Fin 15 => iprop(∃ f, slotPts (F := F) c (rslot c k) fullShare f)) := by
  rw [bigSep_univ_equiv (slotEquiv c), show (Finset.univ : Finset (Fin 16)) = insert (15 : Fin 16) (Finset.univ.map Fin.castSuccEmb) from by decide,
    bigSep_insert (by decide), bigSep_map]
  exact BI.Entails.refl _

/-! ## Out over the first barrier -/

theorem dst_opp (d : Fin 4) (k : Fin 15) (h : dir k = opp d) : dst (nbr c d) k = c := by
  unfold dst; rw [h, nbr_opp]

omit [FloatOps F] in
theorem make_pays : iprop((bigSep Finset.univ fun k : Fin 15 => iprop((∃ f, slotPts c (rslot c k) fullShare f) ∗ reached ER (cell c (.recv k)) 0))
      ∗ reached ER (cell c .fin) 0)
    ⊢ (bigSep Finset.univ fun d : Fin 4 => barPay (F := F) (nbr c d) d : sProp 𝕄) := by
  have e : (Finset.univ : Finset (Fin 15)) = Finset.univ.biUnion fun d : Fin 4 => Finset.univ.filter fun k : Fin 15 => dir k = opp d := by decide
  have hk : (bigSep (Finset.univ : Finset (Fin 15)) fun k => iprop((∃ f, slotPts (F := F) c (rslot c k) fullShare f) ∗ reached ER (cell c (.recv k)) 0) : sProp 𝕄)
      = bigSep Finset.univ fun d : Fin 4 => bigSep (Finset.univ.filter fun k : Fin 15 => dir k = opp d) fun k =>
        iprop((∃ f, slotPts (dst (nbr c d) k) (rslot (dst (nbr c d) k) k) fullShare f) ∗ reached ER (cell (dst (nbr c d) k) (.recv k)) 0) := by
    conv_lhs => rw [e]
    rw [bigSep_biUnion_eq _ _ _ (by decide)]
    refine bigSep_congr fun d _ => bigSep_congr fun k hk => ?_
    rw [dst_opp c d k (Finset.mem_filter.mp hk).2]
  have hf : (reached ER (cell c .fin) 0 : sProp 𝕄) ⊢ bigSep Finset.univ fun d : Fin 4 => reached ER (cell (nbr (nbr c d) (opp d)) .fin) 0 := by
    rw [bigSep_congr fun d _ => show (reached ER (cell (nbr (nbr c d) (opp d)) .fin) 0 : sProp 𝕄) = reached ER (cell c .fin) 0 by rw [nbr_opp]]
    exact bigSep_intro_persistent fun _ _ => BI.Entails.refl _
  unfold barPay
  refine BIBase.Entails.trans ?_ (Entails.of_eq (bigSep_sep' _ _ _).symm)
  rw [← hk]
  iintro ⟨Hk, Hf⟩
  isplitl [Hk]; · iexact Hk
  iapply hf; iexact Hf

omit [FloatOps F] in
theorem sort_cells : (bigSep Finset.univ fun s : Sc => iprop(atPos ER (cell c (scKd s)) 0 ∅ 0 ∗ reached ER (cell c (scKd s)) 0) : sProp 𝕄)
    ⊢ iprop((atPos ER (cell c .fin) 0 ∅ 0 ∗ reached ER (cell c .fin) 0)
      ∗ ((bigSep Finset.univ (sPos 0 c)) ∗ bigSep Finset.univ fun k : Fin 15 => reached ER (cell c (.send k)) 0)
      ∗ (bigSep Finset.univ fun k : Fin 15 => atPos ER (cell c (.recv k)) 0 ∅ 0) ∗ bigSep Finset.univ fun k : Fin 15 => reached ER (cell c (.recv k)) 0) := by
  rw [bigSep_univ_sum, bigSep_univ_sum, bigSep_univ_of_subsingleton (), bigSep_sep', bigSep_sep']
  exact BI.Entails.refl _

/-- The bundle the body starts from. -/
theorem enter : iprop(opened m K c ∗ levAts L lv ∗ (∃ f, full c cc0_scratch0 f) ∗ (∃ W, owes (c : Thread nD τ) (owed c 0 0 0) W)
      ∗ full c cc0_stg0_0 (V1 m c main_v19) ∗ full c cc0_stg1_0 (V1 m c main_v21)
      ∗ full c cc0_stg2_0 (V1 m c main_v16) ∗ full c cc0_stg3_0 (V1 m c main_v18) ∗ ∃ f, full c cc0_stg4_0 f) ⊢ (Bar m K c 0 : sProp 𝕄) := by
  unfold opened toks creds Bar core later
  iintro ⟨⟨⟨#HI, Hab, Hsc, Htb, Htf, Hts, Htr⟩, Hcb, Hcf, Hcr⟩, Hlev, Hscr, HO, Hstg⟩
  ihave Hsc := sort_cells c $$ Hsc
  icases Hsc with ⟨⟨Haf, #Hrf⟩, ⟨Has, Hrs⟩, Har, Hrr⟩
  ihave Hscr := to_slots c $$ Hscr
  ihave Hscr := sort_slots c $$ Hscr
  icases Hscr with ⟨Hown, Hslots⟩
  isplitl [Hlev Hstg]
  · isplitr; · iexact HI
    isplitl [Hlev]; · iexact Hlev
    iexact Hstg
  isplitl [HO]; · iexact HO
  isplitl [Htb Hslots Hrr]
  · rw [show (Finset.univ.filter fun d : Fin 4 => 0 ≤ d.val) = Finset.univ from by decide, bigSep_sep']
    isplitl [Htb]; · iexact Htb
    iapply (make_pays c)
    isplitl [Hslots Hrr]
    · rw [bigSep_sep']
      isplitl [Hslots]; · iexact Hslots
      iexact Hrr
    iexact Hrf
  isplitl [Hcb]; · iexact Hcb
  isplitl [Hab]; · iexact Hab
  isplitl [Hown]; · iexact Hown
  isplitl [Hts Hrs Htr]
  · rw [bigSep_sep', bigSep_sep']
    isplitl [Hts]; · iexact Hts
    isplitl [Hrs]; · iexact Hrs
    iexact Htr
  isplitl [Htf]; · iexact Htf
  isplitl [Hcf]; · iexact Hcf
  isplitl [Haf]; · iexact Haf
  isplitl [Has]; · iexact Has
  unfold rWait
  rw [bigSep_sep']
  isplitl [Hcr]; · iexact Hcr
  iexact Har

/-! ## Closing -/

theorem close_one (κ : Kd) : iprop(records m K ∗ atPos ER (cell c κ) 1 ∅ 0) ⊢ (|={Set.univ}=> semVal (cell c κ) 0 : sProp 𝕄) := by
  iintro ⟨#HI, Ha⟩
  iapply (close m (K (cell c κ)) (cell c κ))
  isplitr; · iapply (inv_at m K c κ); iexact HI
  iexact Ha

theorem close_all : iprop(records m K ∗ bigSep Finset.univ fun s : Sc => atPos ER (cell c (scKd s)) 1 ∅ 0)
    ⊢ (|={Set.univ}=> Pipeline.ownSems0 osem c : sProp 𝕄) := by
  unfold Pipeline.ownSems0
  refine BIBase.Entails.trans ?_ (bigSep_fupd _ _)
  exact bigSep_with_persistent (R := records m K) (fun s _ => close_one m K c (scKd s))

omit [FloatOps F] in
theorem join_cells : iprop(atPos ER (cell c .fin) 1 ∅ 0 ∗ (bigSep Finset.univ (sPos 1 c)) ∗ bigSep Finset.univ (rPos c))
    ⊢ (bigSep Finset.univ fun s : Sc => atPos ER (cell c (scKd s)) 1 ∅ 0 : sProp 𝕄) := by
  rw [bigSep_univ_sum, bigSep_univ_sum, bigSep_univ_of_subsingleton ()]
  exact BI.Entails.refl _

/-- What a device ends with: its counters at zero, its buffers whole, nothing owed. -/
def Over (v : (cc0_stg4_0 : Ref sig .tc).ty.Contents (Elt F)) : sProp 𝕄 :=
  iprop((semVal (cell c .bar) 0 ∗ Pipeline.ownSems0 osem c ∗ ∃ f, full c cc0_scratch0 f) ∗ (∃ W, owes (c : Thread nD τ) 0 W)
    ∗ full c cc0_stg0_0 (V1 m c main_v19) ∗ full c cc0_stg1_0 (V1 m c main_v21)
    ∗ full c cc0_stg2_0 (V1 m c main_v16) ∗ full c cc0_stg3_0 (V1 m c main_v18) ∗ full c cc0_stg4_0 v)

theorem leave (v : (cc0_stg4_0 : Ref sig .tc).ty.Contents (Elt F)) : Done m K c v ⊢ (|={Set.univ}=> Over m c v : sProp 𝕄) := by
  unfold Done Over
  iintro ⟨⟨#HI, Hstg⟩, HO, Haf, Hab, Has, Har, Hp⟩
  imod (close_one m K c .bar) $$ [Hab] with Hb
  · isplitr; · iexact HI
    iexact Hab
  imod (close_all m K c) $$ [Haf Has Har] with Hs
  · isplitr; · iexact HI
    iapply (join_cells c)
    isplitl [Haf]; · iexact Haf
    isplitl [Has]; · iexact Has
    iexact Har
  imodintro
  isplitl [Hb Hs Hp]
  · isplitl [Hb]; · iexact Hb
    isplitl [Hs]; · iexact Hs
    iapply (from_pieces m c); iexact Hp
  isplitl [HO]; · iexact HO
  iexact Hstg

end Cert.Proof

end
-- ==== Proof.Region.lean ====
/- The kernel as one region of the program: what it is entered with, the obligation of its body, what it leaves. -/
module

public import proofs.«01_k».proof.Proof.Enter
public import Idealize.ShloMosaic.Lib.Pipeline.RegionTalk

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ)
variable (c : Dev nD)

/-! ## What enters and what leaves -/

def Tk : sProp 𝕄 := iprop(∃ K, dealt m K c)
def Xk : sProp 𝕄 := iprop((∃ K, opened m K c) ∗ levAts L lv)
def Yk : sProp 𝕄 := semVal (cell c .bar) 0

def Φ₀ : sProp 𝕄 := iprop(Xk m c ∗ (∃ f, full c cc0_scratch0 f) ∗ ∃ r, prngReg c r)
def Φ₁ : sProp 𝕄 := iprop((semVal (cell c .bar) 0 ∗ Pipeline.ownSems0 osem c ∗ ∃ f, full (F := F) c cc0_scratch0 f) ∗ ∃ r, prngReg c r)

theorem region_open : iprop(Tk m c ∗ Pipeline.ownSems0 osem c ∗ levAts L lv) ⊢ (|={Set.univ}=> Xk m c : sProp 𝕄) := by
  unfold Tk Xk dealt opened
  iintro ⟨⟨%K, ⟨#HI, Hat, Ho, Ht⟩, Hc⟩, Hs, Hlev⟩
  imod (open_all m K c) $$ [Ho Hs] with Hsc
  · isplitr; · iexact HI
    isplitl [Ho]; · iexact Ho
    iexact Hs
  imodintro
  isplitr [Hlev]
  · iexists K
    isplitr [Hc]
    · isplitr; · iexact HI
      isplitl [Hat]; · iexact Hat
      isplitl [Hsc]; · iexact Hsc
      iexact Ht
    iexact Hc
  iexact Hlev

/-! ## The pipeline's data -/

/-- The operands are staged whole and left as they are; the result is what the body computes. -/
def dats (_ : Fin 1) (c : Dev nD) : Dat τ (Elt F) Unit ℕ UU ℕ cfg0 c where
  A w := V1 m c (Proc.devRef .tc (Pipeline.arrRef spec0 w))
  after w _ := match w with
    | ⟨0, _⟩ => V1 m c main_v19
    | ⟨1, _⟩ => V1 m c main_v21
    | ⟨2, _⟩ => V1 m c main_v16
    | ⟨3, _⟩ => V1 m c main_v18
    | ⟨4, _⟩ => outAt m c
  Φ t := match t with
    | ⟨0, _⟩ => Φ₀ m c
    | ⟨_ + 1, _⟩ => Φ₁ c
  q _ := fullShare
  owed t := match t with
    | ⟨0, _⟩ => owed c 0 0 0
    | ⟨_ + 1, _⟩ => 0

theorem owesAt_intro (t : Fin (cfg0.N + 1)) (O : CellTallies nD τ sig Unit) (h : (dats m 0 c).owed t = O) (W : Waits sig Unit) :
    (owes (c : Thread nD τ) O W : sProp 𝕄) ⊢ (dats m 0 c).owesAt () t := by
  unfold Dat.owesAt Pipeline.owesWithin Dat.bound
  rw [h]
  iintro H; iexists W
  isplitr
  · ipureintro; exact fun _ _ => Or.inl trivial
  iexact H

theorem owesAt_elim (t : Fin (cfg0.N + 1)) (O : CellTallies nD τ sig Unit) (h : (dats m 0 c).owed t = O) :
    ((dats m 0 c).owesAt () t : sProp 𝕄) ⊢ iprop(∃ W, owes (c : Thread nD τ) O W) := by
  unfold Dat.owesAt Pipeline.owesWithin
  rw [h]
  iintro ⟨%W, -, H⟩; iexists W; iexact H

omit [FloatOps F] in
theorem owns_full (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ full c b f) := by
  unfold owns; simp only [Memref.view_whole, View.read_whole, View.set_whole]

/-- A staging buffer that holds `X`. -/
abbrev stg (b : Ref sig .tc) (X : b.ty.Contents (Elt F)) : sProp 𝕄 :=
  owns (Ix := Unit) (Name := ℕ) (U := UU) (Lvl := ℕ) (c : Thread nD τ) (Memref.whole b) fullShare X

omit [FloatOps F] in
theorem fetched_0 (D : Dat τ (Elt F) Unit ℕ UU ℕ cfg0 c) (d : _) :
    D.before ((0 : Fin 5) : Fin cfg0.W) t0_0 d = (show main_v19.ty.Contents (Elt F) from D.A ((0 : Fin 5) : Fin cfg0.W)) := by
  unfold Dat.before; rw [if_pos (fetch0_0 t0_0)]
  have hz : (fun a => (win0_0.index (0 : Fin 1)) a * main_v19.ty.shape.size a) = fun _ => 0 := funext fun a => by fin_cases a <;> decide
  exact Memref.read_access_unit_zero (Elt F) main_v19 hz (fun a => by fin_cases a <;> decide) _
omit [FloatOps F] in
theorem fetched_1 (D : Dat τ (Elt F) Unit ℕ UU ℕ cfg0 c) (d : _) :
    D.before ((1 : Fin 5) : Fin cfg0.W) t0_0 d = (show main_v21.ty.Contents (Elt F) from D.A ((1 : Fin 5) : Fin cfg0.W)) := by
  unfold Dat.before; rw [if_pos (fetch0_1 t0_0)]
  have hz : (fun a => (win0_1.index (0 : Fin 1)) a * main_v21.ty.shape.size a) = fun _ => 0 := funext fun a => by fin_cases a <;> decide
  exact Memref.read_access_unit_zero (Elt F) main_v21 hz (fun a => by fin_cases a <;> decide) _
omit [FloatOps F] in
theorem fetched_2 (D : Dat τ (Elt F) Unit ℕ UU ℕ cfg0 c) (d : _) :
    D.before ((2 : Fin 5) : Fin cfg0.W) t0_0 d = (show main_v16.ty.Contents (Elt F) from D.A ((2 : Fin 5) : Fin cfg0.W)) := by
  unfold Dat.before; rw [if_pos (fetch0_2 t0_0)]
  have hz : (fun a => (win0_2.index (0 : Fin 1)) a * main_v16.ty.shape.size a) = fun _ => 0 := funext fun a => by fin_cases a <;> decide
  exact Memref.read_access_unit_zero (Elt F) main_v16 hz (fun a => by fin_cases a <;> decide) _
omit [FloatOps F] in
theorem fetched_3 (D : Dat τ (Elt F) Unit ℕ UU ℕ cfg0 c) (d : _) :
    D.before ((3 : Fin 5) : Fin cfg0.W) t0_0 d = (show main_v18.ty.Contents (Elt F) from D.A ((3 : Fin 5) : Fin cfg0.W)) := by
  unfold Dat.before; rw [if_pos (fetch0_3 t0_0)]
  have hz : (fun a => (win0_3.index (0 : Fin 1)) a * main_v18.ty.shape.size a) = fun _ => 0 := funext fun a => by fin_cases a <;> decide
  exact Memref.read_access_unit_zero (Elt F) main_v18 hz (fun a => by fin_cases a <;> decide) _

theorem before_0 (d : _) : (dats m 0 c).before ((0 : Fin 5) : Fin cfg0.W) t0_0 d = V1 m c main_v19 := fetched_0 c (dats m 0 c) d
theorem before_1 (d : _) : (dats m 0 c).before ((1 : Fin 5) : Fin cfg0.W) t0_0 d = V1 m c main_v21 := fetched_1 c (dats m 0 c) d
theorem before_2 (d : _) : (dats m 0 c).before ((2 : Fin 5) : Fin cfg0.W) t0_0 d = V1 m c main_v16 := fetched_2 c (dats m 0 c) d
theorem before_3 (d : _) : (dats m 0 c).before ((3 : Fin 5) : Fin cfg0.W) t0_0 d = V1 m c main_v18 := fetched_3 c (dats m 0 c) d

/-! ## The body's obligation -/

def bodyPre : sProp 𝕄 :=
  iprop(Φ₀ m c ∗ (dats m 0 c).owesAt () t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
def bodyPost : sProp 𝕄 :=
  iprop(Φ₁ c ∗ (dats m 0 c).owesAt () t0_0.succ ∗ stg c cc0_stg0_0 (V1 m c main_v19) ∗ stg c cc0_stg1_0 (V1 m c main_v21)
    ∗ stg c cc0_stg2_0 (V1 m c main_v16) ∗ stg c cc0_stg3_0 (V1 m c main_v18) ∗ stg c cc0_stg4_0 (outAt m c))

omit [FloatOps F] in
theorem stg_elim (b : Ref sig .tc) (X : b.ty.Contents (Elt F)) : stg c b X ⊢ (full c b X : sProp 𝕄) := by
  unfold stg; rw [owns_full]
  iintro ⟨%f, %h, H⟩; subst h; iexact H
omit [FloatOps F] in
theorem stg_intro (b : Ref sig .tc) (X : b.ty.Contents (Elt F)) : (full c b X : sProp 𝕄) ⊢ stg c b X := by
  unfold stg; rw [owns_full]
  iintro H; iexists X
  isplitr
  · ipureintro; rfl
  iexact H

theorem over_post : Over m c (outAt m c) ∗ (∃ r, prngReg c r) ⊢ (bodyPost m c : sProp 𝕄) := by
  unfold Over bodyPost Φ₁
  iintro ⟨⟨Hz, ⟨%W, HO⟩, H0, H1, H2, H3, H4⟩, Hp⟩
  isplitl [Hz Hp]
  · isplitl [Hz]; · iexact Hz
    iexact Hp
  isplitl [HO]; · iapply (owesAt_intro m c t0_0.succ 0 rfl W); iexact HO
  isplitl [H0]; · iapply (stg_intro c cc0_stg0_0 (V1 m c main_v19)); iexact H0
  isplitl [H1]; · iapply (stg_intro c cc0_stg1_0 (V1 m c main_v21)); iexact H1
  isplitl [H2]; · iapply (stg_intro c cc0_stg2_0 (V1 m c main_v16)); iexact H2
  isplitl [H3]; · iapply (stg_intro c cc0_stg3_0 (V1 m c main_v18)); iexact H3
  iapply (stg_intro c cc0_stg4_0 (outAt m c)); iexact H4

theorem pre_enter : bodyPre m c ⊢ (iprop((∃ K, Bar m K c 0) ∗ ∃ r, prngReg c r) : sProp 𝕄) := by
  unfold bodyPre Φ₀ Xk
  simp only [before_0, before_1, before_2, before_3]
  iintro ⟨⟨⟨⟨%K, Hop⟩, Hlev⟩, Hscr, Hp⟩, HO, ⟨%_, H0⟩, ⟨%_, H1⟩, ⟨%_, H2⟩, ⟨%_, H3⟩, ⟨%d4, H4⟩⟩
  isplitr [Hp]
  · iexists K
    iapply (enter m K c)
    isplitl [Hop]; · iexact Hop
    isplitl [Hlev]; · iexact Hlev
    isplitl [Hscr]; · iexact Hscr
    isplitl [HO]; · iapply (owesAt_elim m c t0_0.castSucc (owed c 0 0 0) rfl); iexact HO
    isplitl [H0]; · iapply (stg_elim c cc0_stg0_0 (V1 m c main_v19)); iexact H0
    isplitl [H1]; · iapply (stg_elim c cc0_stg1_0 (V1 m c main_v21)); iexact H1
    isplitl [H2]; · iapply (stg_elim c cc0_stg2_0 (V1 m c main_v16)); iexact H2
    isplitl [H3]; · iapply (stg_elim c cc0_stg3_0 (V1 m c main_v18)); iexact H3
    iexists ((dats m 0 c).before ((4 : Fin 5) : Fin cfg0.W) t0_0 d4); iapply (stg_elim c cc0_stg4_0 ((dats m 0 c).before ((4 : Fin 5) : Fin cfg0.W) t0_0 d4)); iexact H4
  iexact Hp

theorem run_post (K : GSem nD τ sig → ℕ) : Bar m K c 0 ⊢ Wp c (onArgs (cc0_body (F := F))) fun _ => Over m c (outAt m c) :=
  (body_run m K c (Q := fun _ => iprop(|={Set.univ}=> Over m c (outAt m c))) (leave m K c (outAt m c))).trans (wp_fupd _ _ _ _ _)

theorem run_body : bodyPre m c ⊢ Wp c (onArgs (cc0_body (F := F))) fun _ => bodyPost m c := by
  refine (pre_enter m c).trans ?_
  iintro ⟨⟨%K, H⟩, Hp⟩
  iapply (wp_mono _ _ _ fun _ => over_post m c)
  iapply (wp_frame_r _ _ _)
  isplitl [H]
  · iapply (run_post m c K); iexact H
  iexact Hp

set_option maxRecDepth 20000 in
/-- The obligation at the one point, window by window. -/
theorem at_point (D : Dat τ (Elt F) Unit ℕ UU ℕ cfg0 c)
    (h : iprop(D.Φ t0_0.castSucc ∗ D.owesAt () t0_0.castSucc
        ∗ (∃ d, stg c cc0_stg0_0 (D.before ((0 : Fin 5) : Fin cfg0.W) t0_0 d)) ∗ (∃ d, stg c cc0_stg1_0 (D.before ((1 : Fin 5) : Fin cfg0.W) t0_0 d)) ∗ (∃ d, stg c cc0_stg2_0 (D.before ((2 : Fin 5) : Fin cfg0.W) t0_0 d)) ∗ (∃ d, stg c cc0_stg3_0 (D.before ((3 : Fin 5) : Fin cfg0.W) t0_0 d)) ∗ (∃ d, stg c cc0_stg4_0 (D.before ((4 : Fin 5) : Fin cfg0.W) t0_0 d)))
      ⊢ Wp c (onArgs (cc0_body (F := F))) fun _ => iprop(D.Φ t0_0.succ ∗ D.owesAt () t0_0.succ
        ∗ stg c cc0_stg0_0 (D.after ((0 : Fin 5) : Fin cfg0.W) t0_0) ∗ stg c cc0_stg1_0 (D.after ((1 : Fin 5) : Fin cfg0.W) t0_0) ∗ stg c cc0_stg2_0 (D.after ((2 : Fin 5) : Fin cfg0.W) t0_0) ∗ stg c cc0_stg3_0 (D.after ((3 : Fin 5) : Fin cfg0.W) t0_0) ∗ stg c cc0_stg4_0 (D.after ((4 : Fin 5) : Fin cfg0.W) t0_0))) :
    BodyObligation D (defs₀ (F := F)) 𝒱₀ () Set.univ := fun t => by
  rw [fin_N0 t, bigSep_W0, bigSep_W0]
  exact h

theorem after_0 : (dats m 0 c).after ((0 : Fin 5) : Fin cfg0.W) t0_0 = V1 m c main_v19 := rfl
theorem after_1 : (dats m 0 c).after ((1 : Fin 5) : Fin cfg0.W) t0_0 = V1 m c main_v21 := rfl
theorem after_2 : (dats m 0 c).after ((2 : Fin 5) : Fin cfg0.W) t0_0 = V1 m c main_v16 := rfl
theorem after_3 : (dats m 0 c).after ((3 : Fin 5) : Fin cfg0.W) t0_0 = V1 m c main_v18 := rfl
theorem after_4 : (dats m 0 c).after ((4 : Fin 5) : Fin cfg0.W) t0_0 = outAt m c := rfl
theorem inv_start : (dats m 0 c).Φ t0_0.castSucc = Φ₀ m c := rfl
theorem inv_end : (dats m 0 c).Φ t0_0.succ = Φ₁ c := rfl

theorem body_obligation : BodyObligation (dats (F := F) m 0 c) (defs₀ (F := F)) 𝒱₀ () Set.univ := by
  have h := run_body m c
  unfold bodyPre bodyPost at h
  refine at_point c (dats m 0 c) ?_
  rw [after_0, after_1, after_2, after_3, after_4, inv_start, inv_end]
  exact h

/-! ## The region's record -/

/-- What the kernel leaves in its result. -/
def outs : Outs (F := F) := fun _ r c => Function.update (V1 m c) (Proc.devRef .tc main_v22) (outAt m c) (Proc.devRef .tc r)

theorem outs_v22 : outs m 2 main_v22 c = outAt m c := Function.update_self _ _ _

theorem share_full (w : Fin cfg0.W) : (dats m 0 c).share w = fullShare := by unfold Dat.share; split <;> rfl

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owes_cut (t : Fin (cfg0.N + 1)) (g : GSem nD τ sig) (i : Unit) (h : 0 < (dats m 0 c).owed t g i) : i ∈ L g ∧ (0 : ℕ) < lv g i := by
  have key : ∀ O : CellTallies nD τ sig Unit, O = owed c 0 0 0 ∨ O = 0 → 0 < O g i → i ∈ L g ∧ (0 : ℕ) < lv g i := by
    rintro O (rfl | rfl) h
    · rcases owed_pos c 0 0 0 g i h with ⟨d, -, rfl⟩ | ⟨k, -, rfl⟩ | ⟨d, -, rfl⟩
      all_goals exact ⟨by rw [L_tc]; exact Finset.mem_singleton_self _, by rw [lv_cell]; exact Nat.succ_pos _⟩
    · exact absurd h (Nat.lt_irrefl 0)
  refine key _ ?_ h
  match t with
  | ⟨0, _⟩ => exact .inl rfl
  | ⟨_ + 1, _⟩ => exact .inr rfl

theorem ownSem_facts : Pipeline.OwnSemFacts spec0 osem := by decide

theorem stage_lv (w : Fin cfg0.W) (s : Fin (cfg0.win w).nbuf) : lvOf (kindOf (.dma ((cfg0.win w).sem s))) = 0 := by
  fin_cases w <;> fin_cases s <;> decide

theorem stored (D : Dat τ (Elt F) Unit ℕ UU ℕ cfg0 c) (X : main_v22.ty.Contents (Elt F)) (h : ∀ t, D.after (4 : Fin 5) t = X) :
    D.arrAt ((4 : Fin 5) : Fin cfg0.W) 1 = X := by
  have hz : (fun a => (win0_4.index (0 : Fin 1)) a * main_v22.ty.shape.size a) = fun _ => 0 := funext fun a => by fin_cases a <;> decide
  rw [show (1 : ℕ) = t0_0.val + 1 from rfl, D.arrAt_succ, if_pos (flush0_4 t0_0), ← h t0_0]
  exact Memref.write_access_unit_zero_univ (Elt F) main_v22 hz (fun a => by fin_cases a <;> decide) _ _

set_option backward.isDefEq.respectTransparency.types false in
set_option maxRecDepth 4000 in
theorem entered (w : Fin cfg0.W) : (dats m 0 c).arrAt w 0 = V1 m c (Proc.devRef .tc (Pipeline.arrRef spec0 w)) := rfl

theorem V2_in (r : Ref sig .tc) (h : r ≠ main_v22) : V1 m c r = V2 m (outs m) c r :=
  (V2_of m (outs m) c r (by simpa using h)).symm

theorem V2_out : V2 m (outs m) c main_v22 = outAt m c := by
  rw [show V2 m (outs m) c main_v22 = outs m 2 main_v22 c from Function.update_self _ _ _, outs_v22]

theorem in_kept (D : Dat τ (Elt F) Unit ℕ UU ℕ cfg0 c) (w : Fin 5) (h : w ≠ 4) : D.arrAt (w : Fin cfg0.W) 1 = D.A (w : Fin cfg0.W) :=
  D.arrAt_in w (by revert h; revert w; decide) 1

theorem left_0 : (dats m 0 c).arrAt ((0 : Fin 5) : Fin cfg0.W) 1 = V2 m (outs m) c main_v19 := (in_kept c (dats m 0 c) 0 (by decide)).trans (V2_in m c main_v19 (by decide))
theorem left_1 : (dats m 0 c).arrAt ((1 : Fin 5) : Fin cfg0.W) 1 = V2 m (outs m) c main_v21 := (in_kept c (dats m 0 c) 1 (by decide)).trans (V2_in m c main_v21 (by decide))
theorem left_2 : (dats m 0 c).arrAt ((2 : Fin 5) : Fin cfg0.W) 1 = V2 m (outs m) c main_v16 := (in_kept c (dats m 0 c) 2 (by decide)).trans (V2_in m c main_v16 (by decide))
theorem left_3 : (dats m 0 c).arrAt ((3 : Fin 5) : Fin cfg0.W) 1 = V2 m (outs m) c main_v18 := (in_kept c (dats m 0 c) 3 (by decide)).trans (V2_in m c main_v18 (by decide))
theorem left_4 : (dats m 0 c).arrAt ((4 : Fin 5) : Fin cfg0.W) 1 = V2 m (outs m) c main_v22 := (stored c (dats m 0 c) (outAt m c) fun _ => rfl).trans (V2_out m c).symm

set_option backward.isDefEq.respectTransparency.types false in
theorem left (w : Fin cfg0.W) : (dats m 0 c).arrAt w 1 = V2 m (outs m) c (Proc.devRef .tc (Pipeline.arrRef spec0 w)) :=
  match w with
  | ⟨0, _⟩ => left_0 m c
  | ⟨1, _⟩ => left_1 m c
  | ⟨2, _⟩ => left_2 m c
  | ⟨3, _⟩ => left_3 m c
  | ⟨4, _⟩ => left_4 m c

theorem region_in : iprop(Pipeline.scopedRest spec0 c ∗ (∃ r, prngReg c r) ∗ StableHlo.held (c.tc : Thread nD τ) ∅ (V1 m c) ∗ Xk m c) ⊢ (Φ₀ m c : sProp 𝕄) := by
  rw [scopedRest0_eq]
  unfold Φ₀
  iintro ⟨Hs, Hp, -, HX⟩
  isplitl [HX]; · iexact HX
  isplitl [Hs]; · iexact Hs
  iexact Hp

theorem region_out : Φ₁ c ⊢ (iprop(Pipeline.scopedRest spec0 c ∗ (∃ r, prngReg c r) ∗ StableHlo.held (c.tc : Thread nD τ) ∅ (V2 m (outs m) c)
    ∗ Pipeline.ownSems0 osem c ∗ Yk c) : sProp 𝕄) := by
  rw [scopedRest0_eq, show (StableHlo.held (c.tc : Thread nD τ) ∅ (V2 m (outs m) c) : sProp 𝕄) = BI.emp from BI.bigSep_empty]
  unfold Φ₁ Yk
  iintro ⟨⟨Hb, Hs, Hscr⟩, Hp⟩
  isplitl [Hscr]; · iexact Hscr
  isplitl [Hp]; · iexact Hp
  isplitr; · iempintro
  isplitl [Hs]; · iexact Hs
  iexact Hb

/-- The buffers the region does not touch. -/
abbrev others : Finset (DevRef τ sig) := Pipeline.ucRefs τ sig \ Pipeline.arrRefs (τ := τ) spec0

theorem arr_mem (w : Fin 5) : (Proc.devRef .tc (Pipeline.arrRef spec0 w) : DevRef τ sig) ∈ Pipeline.arrRefs (τ := τ) spec0 :=
  Finset.mem_map_of_mem _ (Finset.mem_image_of_mem _ (Finset.mem_univ w))

theorem others_kept (b : DevRef τ sig) (hb : b ∈ others \ ∅) : V2 m (outs m) c b = V1 m c b :=
  Function.update_of_ne (fun e => (Finset.mem_sdiff.mp (Finset.mem_sdiff.mp hb).1).2 (by rw [e]; exact arr_mem 4)) _ _

set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 osem ownSem_facts
    ∅ others (Finset.empty_subset _) kitP rfl (fun c => (body_obligation m c).loose)
    (fun _ => 0) (fun c => owed c 0 0 0) (fun c => (zero_add _).symm) (fun _ => rfl) (fun _ => rfl) (share_full m)
    (V1 m) (V2 m (outs m)) (others_kept m)
    (Tk m) Yk (Xk m) Yk (region_open m) (region_in m) (region_out m)
    (fun c => by iintro H; imodintro; iexact H)
    (fun _ => 0)
    ⟨fun c w s => by rw [L_tc]; exact Finset.mem_singleton_self _, fun c w s => le_of_eq (stage_lv w s), owes_cut m⟩
    (fun _ => iprop(emp))
    (entered m) (left m)

theorem region_pre : iprop(StableHlo.held (c : Thread nD τ) (Pipeline.ucRefs τ sig) (V1 m c) ∗ (∃ r, prngReg c r) ∗ Tk m c ∗ ∃ W, owes (c : Thread nD τ) (owed c 0 0 0) W)
    ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owed c 0 0 0) Wd)
  rw [zero_add, StableHlo.held_sub_split (c : Thread nD τ) (Pipeline.arrRefs_sub_ucRefs spec0 winFacts0.arr_unscoped) (V1 m c)]
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

theorem region_post : (region m).post c
    ⊢ iprop(StableHlo.held (c : Thread nD τ) (Pipeline.ucRefs τ sig) (V2 m (outs m) c) ∗ Yk c ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c : Thread nD τ) (Pipeline.arrRefs_sub_ucRefs spec0 winFacts0.arr_unscoped) (V2 m (outs m) c)]
  iintro ⟨Ha, -, ⟨Ho, -⟩, HT, HO⟩
  isplitl [Ha Ho]; · isplitl [Ha] <;> iassumption
  isplitl [HT]; · iexact HT
  iexact HO

end Cert.Proof

end
-- ==== Proof.Value.lean ====
/- The kernel's result on a device is the reference's result on that device's rows. -/
module

public import proofs.«01_k».proof.Proof.Args
public import proofs.«01_k».proof.Proof.Ref
public import proofs.«01_k».proof.Proof.Region

@[expose] public section

noncomputable section

namespace Cert.Proof

open Idealize.ShloMosaic Idealize.ShloMosaic.TcCoe Idealize.ShloMosaic.ValueIdx Idealize.ShloMosaic.StableHlo
open Cert.Kernel Cert.Kernel.Gen
open scoped BigOperators

/-- A head's share of the result at row `i` of batch `B`, column `c`. -/
def headTerm (X : FVec Ideal ⟨3, ![32, 128, 512]⟩ .bf16) (Wq : FVec Ideal ⟨2, ![512, 4096]⟩ .bf16) (K V : FVec Ideal ⟨4, ![32, 128, 64, 64]⟩ .bf16)
    (Wo : FVec Ideal ⟨2, ![4096, 512]⟩ .bf16) (B : Fin 32) (i : Fin 128) (c : Fin 512) (h : Fin 64) : EReal :=
  ∑ d : Fin 64, att maskOf (fun i d => ∑ e : Fin 512, X (ix3 B i e) * Wq (ix2 e (Ref.col h d))) (fun j d => K (ix4 B j h d)) (fun j d => V (ix4 B j h d)) i d * Wo (ix2 (Ref.col h d) c)

/-- The sixteen terms in the order they are added. -/
theorem sum_order (f : Fin 16 → EReal) : [0, 1, 2, 3, 4, 5, 7, 8, 9, 11, 12, 6, 10, 13, 14].foldl (fun acc a => acc + f a) (f 15) = ∑ a, f a := by
  have hn : ([15, 0, 1, 2, 3, 4, 5, 7, 8, 9, 11, 12, 6, 10, 13, 14] : List (Fin 16)).Nodup := by decide
  have hu : ([15, 0, 1, 2, 3, 4, 5, 7, 8, 9, 11, 12, 6, 10, 13, 14] : List (Fin 16)).toFinset = Finset.univ := by decide
  rw [← hu, List.sum_toFinset f hn]
  simp only [List.foldl_cons, List.foldl_nil, List.map_cons, List.map_nil, List.sum_cons, List.sum_nil, add_zero, add_assoc]

/-- The sum of vectors, at an index. -/
theorem foldl_at (f : Fin 16 → FVec Ideal S256x512 .f32) (l : List (Fin 16)) (z : FVec Ideal S256x512 .f32) (j : S256x512.Idx) :
    l.foldl (fun acc a => addf acc (f a)) z j = l.foldl (fun acc a => acc + f a j) (z j) := by
  induction l generalizing z with
  | nil => rfl
  | cons a l ih => exact ih _

/-- The 64 heads by the device they go with. -/
theorem sum_heads (f : Fin 64 → EReal) : ∑ h, f h = ∑ s : Dev nD, ∑ h : Fin 4, f (headIn s h) := by
  rw [← Equiv.sum_comp (finProdFinEquiv : Fin 16 × Fin 4 ≃ Fin 64) f, Fintype.sum_prod_type]
  refine Finset.sum_congr rfl fun s _ => Finset.sum_congr rfl fun h _ => congrArg f (Fin.ext ?_)
  show h.val + 4 * s.val = 4 * s.val + h.val
  omega

variable (m : (ℓ : Loc nD τ sig) → Buf (Elt Ideal) ℓ)

/-- The result, one batch after the other. -/
theorem V3_v23 (c : Dev nD) : V3 m (outs m) c main_v23 = shapeCast S2x128x512 (outAt m c) shapeCasts_S256x512_S2x128x512 := by
  rw [← V2_out]
  change StableHlo.after hostOps1 (V2 m (outs m) c) main_v23 = _
  generalize V2 m (outs m) c = W
  simp only [hostOps1]
  after_results_simp <;> rfl

variable (X : FVec Ideal ⟨3, ![32, 128, 512]⟩ .bf16) (Wq : FVec Ideal ⟨2, ![512, 4096]⟩ .bf16) (K V : FVec Ideal ⟨4, ![32, 128, 64, 64]⟩ .bf16)
  (Wo : FVec Ideal ⟨2, ![4096, 512]⟩ .bf16)

variable {m X Wq K V Wo}
variable (hX : ∀ (c : Dev nD) (p : Fin 2) (i : Fin 128) (e : Fin 512), (m ((c.tc : Thread nD τ).loc main_arg0) : FVec Ideal S2x128x512 .bf16) (ix3 p i e) = X (ix3 (batchOf c p) i e))
  (hQ : ∀ (s : Dev nD) (e : Fin 512) (h : Fin 4) (d : Fin 64), (m ((s.tc : Thread nD τ).loc main_arg1) : FVec Ideal S512x256 .bf16) (ix2 e (colOf h d)) = Wq (ix2 e (Ref.col (headIn s h) d)))
  (hK : ∀ c : Dev nD, m ((c.tc : Thread nD τ).loc main_arg2) = K) (hV : ∀ c : Dev nD, m ((c.tc : Thread nD τ).loc main_arg3) = V)
  (hO : ∀ (s : Dev nD) (h : Fin 4) (d : Fin 64) (e : Fin 512), (m ((s.tc : Thread nD τ).loc main_arg4) : FVec Ideal S256x512 .bf16) (ix2 (colOf h d) e) = Wo (ix2 (Ref.col (headIn s h) d) e))

include hX hQ hK hV hO

/-- A source's part is its four heads' share. -/
theorem partAt_at (c : Dev nD) (a : Fin 16) (p : Fin 2) (i : Fin 128) (e : Fin 512) :
    partAt m c a (ix2 (rowOf p i) e) = ∑ h : Fin 4, headTerm X Wq K V Wo (batchOf c p) i e (headIn (slotOf c a) h) := by
  unfold partAt
  refine (contrib_at _ maskW (blkAt m c a) (kAt m c a) (vAt m c a) p i e).trans (Finset.sum_congr rfl fun h _ => ?_)
  unfold headTerm
  refine Finset.sum_congr rfl fun d _ => ?_
  have e1 : (fun i j => maskW (ix2 i j)) = maskOf := funext fun i => funext fun j => maskW_at i j
  have e2 : (fun (i : Fin 128) (d : Fin 64) => ∑ e : Fin 512, k0_pay2 (V1 m c main_v19) (ix2 (rowOf p i) e) * blkAt m c a (ix3 0 e (lo (colOf h d))))
      = fun i d => ∑ e : Fin 512, X (ix3 (batchOf c p) i e) * Wq (ix2 e (Ref.col (headIn (slotOf c a) h) d)) := by
    funext i d
    refine Finset.sum_congr rfl fun e _ => congr (congrArg HMul.hMul ?_) ?_
    · unfold k0_pay2
      rw [shapeCast_self, V1_v19]
      have t := rows2_at (F := Ideal) (m ((c.tc : Thread nD τ).loc main_arg0)) p i e
      exact t.trans (hX c p i e)
    · exact (blkAt_at m c a e _).trans ((packW_lo _ _ e _).trans (hQ (slotOf c a) e h d))
  have e3 : (fun (j : Fin 128) (e : Fin 64) => kAt m c a (ix3 (headOf h p) j e)) = fun j e => K (ix4 (batchOf c p) j (headIn (slotOf c a) h) e) :=
    funext fun j => funext fun e => (kAt_at m c a h p j e).trans (congrFun (hK c) _)
  have e4 : (fun (j : Fin 128) (e : Fin 64) => vAt m c a (ix3 (headOf h p) j e)) = fun j e => V (ix4 (batchOf c p) j (headIn (slotOf c a) h) e) :=
    funext fun j => funext fun e => (vAt_at m c a h p j e).trans (congrFun (hV c) _)
  have e5 : blkAt m c a (ix3 0 e (hi (colOf h d))) = Wo (ix2 (Ref.col (headIn (slotOf c a) h) d) e) :=
    (blkAt_at m c a e _).trans ((packW_hi _ _ e _).trans (hO (slotOf c a) h d e))
  rw [e1, e2, e3, e4, e5]

/-- The kernel's result on device `c`. -/
theorem value_at (c : Dev nD) (p : Fin 2) (i : Fin 128) (e : Fin 512) :
    (V3 m (outs m) c main_v23 : FVec Ideal S2x128x512 .f32) (ix3 p i e) = Ref.out X Wq K V Wo (ix3 (batchOf c p) i e) := by
  rw [V3_v23]
  refine (shapeCast_apply _ _ _ (ix2 (rowOf p i) e) ?_).trans ?_
  · rw [Shape.rowMajor_val_three, Shape.rowMajor_val_two]
    rfl
  unfold outAt
  refine (foldl_at (partAt m c) _ _ _).trans ((sum_order fun a => partAt m c a (ix2 (rowOf p i) e)).trans ?_)
  refine Eq.trans ?_ (Ref.out_at X Wq K V Wo (batchOf c p) i e).symm
  refine Eq.trans ?_ (sum_heads (headTerm X Wq K V Wo (batchOf c p) i e)).symm
  exact (Finset.sum_congr rfl fun a _ => partAt_at hX hQ hK hV hO c a p i e).trans
    (Equiv.sum_comp (slotEquiv c) fun s => ∑ h : Fin 4, headTerm X Wq K V Wo (batchOf c p) i e (headIn s h))

end Cert.Proof

end
-- ==== Proof.Run.lean ====
/- The launch of all sixteen devices, and what a run of the program leaves. -/
module

public import proofs.«01_k».proof.Proof.Region

@[expose] public section

noncomputable section

namespace Cert.Proof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)
variable (c : Dev nD)

/-! ## The launch element -/

/-- A duty: of one of the barriers from a direction, of a sender, of a receiver. -/
abbrev Du : Type := Fin 4 ⊕ Fin 4 ⊕ Fin 15 ⊕ Fin 15
def duty : Du → Kd × Fin 4
  | .inl d => (.bar, d)
  | .inr (.inl d) => (.fin, d)
  | .inr (.inr (.inl k)) => (.send k, 0)
  | .inr (.inr (.inr k)) => (.recv k, 0)
theorem duty_inj : Function.Injective duty := fun a b h => by
  rcases a with a | a | a | a <;> rcases b with b | b | b | b <;> simp_all [duty]

def duties : Finset (GSem nD τ sig × ℕ × Fin 4) :=
  Finset.univ.map ⟨fun x : Dev nD × Du => (cell x.1 (duty x.2).1, 0, (duty x.2).2), fun x y h => by
    have h1 := cell_inj (congrArg Prod.fst h)
    exact Prod.ext h1.1 (duty_inj (Prod.ext h1.2 (congrArg (fun t : GSem nD τ sig × ℕ × Fin 4 => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact scKd_ne_bar x.2 (cell_inj h).2

def seed : UU :=
  (initOf (Pipeline.cells (Pipeline.pin (pcfgs (F := F)) adm) cellOf_inj) (Pipeline.launchToks (Pipeline.pin (pcfgs (F := F)) adm) cellOf_inj),
    launchOf barCells scCells duties)

/-- The exchange's part of it, kept on device 0 until every device is there. -/
def kept (c : Dev nD) : sProp 𝕄 := if c = 0 then BI.own (ER (launchOf barCells scCells duties)) else iprop(emp)

omit [FloatOps F] in
theorem kept_all : bigSep Finset.univ (kept (F := F)) = BI.own (ER (launchOf barCells scCells duties)) := by
  rw [bigSep_univ_at _ (0 : Dev nD), bigSep_congr (s := Finset.univ.erase (0 : Dev nD)) (Ψ := fun _ => (BI.emp : sProp 𝕄))
    fun c hc => by unfold kept; rw [if_neg (Finset.ne_of_mem_erase hc)]; rfl, BI.bigSep_emp_const]
  unfold kept; rw [if_pos rfl]
  exact BI.equiv_iff.mp sep_emp

/-! ## The duties go to the devices that pay them -/

omit [FloatOps F] in
theorem around {ι : Type} [Fintype ι] [DecidableEq ι] (e : ι → Dev nD ≃ Dev nD) (Φ : Dev nD → ι → sProp 𝕄) :
    (bigSep Finset.univ fun c : Dev nD => bigSep Finset.univ fun i : ι => Φ c i)
      = bigSep Finset.univ fun c : Dev nD => bigSep Finset.univ fun i : ι => Φ (e i c) i := by
  rw [bigSep_univ_comm, bigSep_univ_comm (fun (c : Dev nD) (i : ι) => Φ (e i c) i)]
  exact bigSep_congr fun i _ => bigSep_univ_equiv (e i) (fun c : Dev nD => Φ c i)

omit [FloatOps F] in
theorem duties_dealt : bigSep duties (fun x => (dutyTok ER x.1 x.2.1 x.2.2 : sProp 𝕄)) = bigSep Finset.univ fun c : Dev nD => toks (F := F) c := by
  have h1 := (around step (fun c d => (dutyTok ER (cell c .bar) 0 d : sProp 𝕄))).symm
  have h2 := (around step (fun c d => (dutyTok ER (cell c .fin) 0 d : sProp 𝕄))).symm
  have h3 := (around (fun k => step (dir k)) (fun c k => (dutyTok ER (cell c (.recv k)) 0 0 : sProp 𝕄))).symm
  unfold duties
  rw [bigSep_map, bigSep_univ_prod]
  refine Eq.trans (b := bigSep Finset.univ fun c : Dev nD => iprop((bigSep Finset.univ fun d : Fin 4 => dutyTok ER (cell c .bar) 0 d)
      ∗ (bigSep Finset.univ fun d : Fin 4 => dutyTok ER (cell c .fin) 0 d) ∗ (bigSep Finset.univ fun k : Fin 15 => dutyTok ER (cell c (.send k)) 0 0)
      ∗ bigSep Finset.univ fun k : Fin 15 => dutyTok ER (cell c (.recv k)) 0 0))
    (bigSep_congr fun c _ => by rw [bigSep_univ_sum, bigSep_univ_sum, bigSep_univ_sum]; rfl) ?_
  rw [bigSep_sep', bigSep_sep', bigSep_sep', ← h1, ← h2, ← h3, ← bigSep_sep', ← bigSep_sep', ← bigSep_sep']
  rfl

/-! ## The credit -/

theorem tally_sum {ι : Type} (S : Finset ι) (f : ι → GSem nD τ sig) (n : ℕ) (g : GSem nD τ sig) :
    (∑ i ∈ S, tallyAt (f i) () n : CellTallies nD τ sig Unit) g () = ∑ i ∈ S, if g = f i then n else 0 := by
  rw [Finset.sum_apply, Finsupp.finset_sum_apply]
  exact Finset.sum_congr rfl fun i _ => by rw [tallyAt_apply]; simp [eq_comm]

theorem total_part {ι : Type} [Fintype ι] [DecidableEq ι] (e : ι → Dev nD ≃ Dev nD) (κf : ι → Kd) (n : ℕ) (κ : Kd) :
    (∑ d : Dev nD, ∑ i : ι, if cell c κ = cell (e i d) (κf i) then n else 0) = ∑ i : ι, if κ = κf i then n else 0 := by
  rw [Finset.sum_comm]
  refine Finset.sum_congr rfl fun i _ => ?_
  rw [Equiv.sum_comp (e i) (fun d => if cell c κ = cell d (κf i) then n else 0)]
  by_cases h : κ = κf i
  · rw [if_pos h, Finset.sum_eq_single c (fun d _ hd => if_neg fun h' => hd (cell_inj h').1.symm) (fun hc => absurd (Finset.mem_univ c) hc), if_pos (by rw [h])]
  · rw [if_neg h]; exact Finset.sum_eq_zero fun d _ => if_neg fun h' => h (cell_inj h').2

theorem total_owed (κ : Kd) : (∑ d : Dev nD, owed d 0 0 0 (cell c κ) ()) = match κ with
    | .bar => 4 | .fin => 4 | .send _ => 0 | .recv _ => N := by
  have h1 : ∀ d : Dev nD, owed d 0 0 0 (cell c κ) () = (∑ i : Fin 4, if cell c κ = cell (step i d) .bar then 1 else 0)
      + (∑ i : Fin 15, if cell c κ = cell (step (dir i) d) (.recv i) then N else 0) + ∑ i : Fin 4, if cell c κ = cell (step i d) .fin then 1 else 0 := fun d => by
    unfold owed
    rw [Finset.filter_true_of_mem (fun _ _ => Nat.zero_le _), Finset.filter_true_of_mem (fun _ _ => Nat.zero_le _)]
    rw [Pi.add_apply, Pi.add_apply, Finsupp.add_apply, Finsupp.add_apply, tally_sum, tally_sum, tally_sum]
    rfl
  rw [Finset.sum_congr rfl fun d _ => h1 d, Finset.sum_add_distrib, Finset.sum_add_distrib, total_part c step (fun _ => .bar),
    total_part c (fun k => step (dir k)) (fun k => .recv k), total_part c step (fun _ => .fin)]
  cases κ <;> simp

theorem credit_at (κ : Kd) (n : ℕ) (h : (∑ d : Dev nD, owed d 0 0 0 (cell c κ) ()) = n) :
    tallyOn (cell c κ) (launchCredit (Pipeline.owing fun d => owed d 0 0 0) 0 (cell c κ)) = (tallyAt (cell c κ) () n : CellTallies nD τ sig Unit) := by
  unfold tallyAt; refine congrArg _ (Finsupp.ext fun u => ?_); cases u
  rw [Pipeline.launchCredit_owing, Finsupp.single_eq_same, h]

/-- The cells others pay into. -/
def paid : Unit ⊕ Unit ⊕ Fin 15 → Kd
  | .inl _ => .bar
  | .inr (.inl _) => .fin
  | .inr (.inr k) => .recv k
theorem paid_inj : Function.Injective paid := fun a b h => by
  rcases a with _ | _ | a <;> rcases b with _ | _ | b <;> simp_all [paid]

omit [FloatOps F] in
theorem credit_all : (Pipeline.launchCred (fun d => owed d 0 0 0) c : sProp 𝕄) ⊢ creds (F := F) c := by
  unfold Pipeline.launchCred
  refine (bigSep_subset (Finset.subset_univ (Finset.univ.map ⟨fun s => (paid s).loc, loc_inj.comp paid_inj⟩))).trans ?_
  rw [bigSep_map, bigSep_univ_sum, bigSep_univ_sum, bigSep_univ_of_subsingleton (), bigSep_univ_of_subsingleton ()]
  unfold creds
  rw [← credit_at c .bar 4 (total_owed c .bar), ← credit_at c .fin 4 (total_owed c .fin),
    bigSep_congr (s := Finset.univ) (Φ := fun k : Fin 15 => (cred (tallyAt (cell c (.recv k)) () N) : sProp 𝕄))
      (fun k _ => by rw [← credit_at c (.recv k) N (total_owed c (.recv k))])]
  exact BI.Entails.refl _

/-! ## Every device at its start -/

/-- What goes with the buffers into the region, and out of it. -/
def E (i : Fin 2) (c : Dev nD) : sProp 𝕄 := match i with
  | 0 => iprop((∃ r, prngReg c r) ∗ Tk m c ∗ ∃ W, owes (c : Thread nD τ) (owed c 0 0 0) W)
  | 1 => iprop(Yk c ∗ ∃ W, owes (c : Thread nD τ) (0 : CellTallies nD τ sig Unit) W)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ Yk c)

omit [FloatOps F] in
theorem counters : (unscopedSems0 c : sProp 𝕄) = semVal (cell c .bar) 0 := by
  unfold unscopedSems0
  rw [show (Finset.univ.filter fun sm : SemLoc sig => ¬ sm.isScoped .tc) = {SemLoc.reg barS} from by decide, bigSep_singleton]
  rfl

/-- What a device holds at launch besides the exchange's ghost state. -/
def bundle (c : Dev nD) : sProp 𝕄 :=
  iprop(StableHlo.held (c : Thread nD τ) (Pipeline.ucRefs τ sig) (V0 m c) ∗ creds c ∗ owes (c : Thread nD τ) (owed c 0 0 0) ∅ ∗ ∃ r, prngReg c r)

/-- What of the ghost state is its own. -/
def own' (c : Dev nD) : sProp 𝕄 :=
  iprop(atPos ER (cell c .bar) 0 ∅ 0 ∗ (bigSep Finset.univ fun s : Sc => openTok ER (cell c (scKd s))) ∗ toks c)

theorem start_one (K : GSem nD τ sig → ℕ) : iprop(records m K ∗ (own' c ∗ bundle m c)) ⊢ T₀ m c := by
  unfold own' bundle T₀ E Tk dealt
  iintro ⟨#HR, ⟨Ha, Ho, Ht⟩, Hh, Hc, HO, Hp⟩
  isplitl [Hh]; · iexact Hh
  isplitl [Hp]; · iexact Hp
  isplitr [HO]
  · iexists K
    isplitr [Hc]
    · isplitr; · iexact HR
      isplitl [Ha]; · iexact Ha
      isplitl [Ho]; · iexact Ho
      iexact Ht
    iexact Hc
  iexists ∅; iexact HO

theorem start_split : iprop(unscopedBufs c (fun b => m ((c : Thread nD τ).loc b)) ∗ unscopedSems0 c
      ∗ owes (c : Thread nD τ) (owed c 0 0 0) ∅ ∗ Pipeline.launchCred (fun d => owed d 0 0 0) c ∗ prngReg c (ρ c) ∗ kept c)
    ⊢ (iprop(bundle m c ∗ (semVal (cell c .bar) 0 ∗ kept c)) : sProp 𝕄) := by
  rw [show unscopedBufs c (fun b => m ((c : Thread nD τ).loc b)) = StableHlo.held (c : Thread nD τ) (Pipeline.ucRefs τ sig) (V0 m c) from
    Pipeline.unscopedBufs_held c (V0 m c), counters]
  unfold bundle
  iintro ⟨Hh, Hus, HO, Hcr, Hp, HG⟩
  isplitr [Hus HG]
  · isplitl [Hh]; · iexact Hh
    isplitl [Hcr]; · iapply (credit_all (F := F) c); iexact Hcr
    isplitl [HO]; · iexact HO
    iexists (ρ c); iexact Hp
  isplitl [Hus] <;> iassumption

omit [FloatOps F] in
theorem bar_all (Φ : GSem nD τ sig → sProp 𝕄) : bigSep barCells Φ = bigSep Finset.univ fun c : Dev nD => Φ (cell c .bar) :=
  bigSep_map (s := Finset.univ) barEmb
omit [FloatOps F] in
theorem sc_all (Φ : GSem nD τ sig → sProp 𝕄) : bigSep scCells Φ = bigSep Finset.univ fun c : Dev nD => bigSep Finset.univ fun s : Sc => Φ (cell c (scKd s)) := by
  rw [bigSep_map, bigSep_univ_prod]; rfl

omit [FloatOps F] in
theorem own_all : bigSep Finset.univ (own' (F := F)) = iprop((bigSep Finset.univ fun c : Dev nD => atPos ER (cell c .bar) 0 ∅ 0)
    ∗ (bigSep Finset.univ fun c : Dev nD => bigSep Finset.univ fun s : Sc => openTok ER (cell c (scKd s))) ∗ bigSep Finset.univ toks) := by
  rw [← bigSep_sep', ← bigSep_sep']; rfl

theorem start_all :
    iprop((bigSep Finset.univ fun c : Dev nD => iprop(unscopedBufs c (fun b => m ((c : Thread nD τ).loc b)) ∗ unscopedSems0 c
        ∗ owes (c : Thread nD τ) (owed c 0 0 0) ∅ ∗ Pipeline.launchCred (fun d => owed d 0 0 0) c ∗ prngReg c (ρ c) ∗ kept c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (owed c 0 0 0) ∅ ∗ Pipeline.launchCred (fun d => owed d 0 0 0) c ∗ prngReg c (ρ c) ∗ kept c))
      ⊢ (bigSep Finset.univ fun c : Dev nD => iprop(bundle m c ∗ (semVal (cell c .bar) 0 ∗ kept c)) : sProp 𝕄) from
    bigSep_mono fun c _ => start_split m ρ c) $$ H
  ihave H2 := (Entails.of_eq (bigSep_sep' Finset.univ (bundle m) fun c => iprop(semVal (cell c .bar) 0 ∗ kept c))) $$ H'; icases H2 with ⟨HB, H3⟩
  ihave H4 := (Entails.of_eq (bigSep_sep' Finset.univ (fun c : Dev nD => (semVal (cell c .bar) 0 : sProp 𝕄)) kept)) $$ H3; icases H4 with ⟨Hv, HG⟩
  ihave Hu := (show bigSep Finset.univ (kept (F := F)) ⊢ BI.own (ER (launchOf barCells scCells duties)) from Entails.of_eq kept_all) $$ HG
  imod (Rounds.fund_launch ER (rd m) disjoint_cells (fun g _ h => h) duties) $$ [Hv Hu] with ⟨%κ, -, #Hinv, #Hr, Hat, Hopen, Htok⟩
  · isplitl [Hv]
    · iapply (Entails.of_eq (bar_all (F := F) fun g => semVal g 0).symm) $$ Hv
    · iexact Hu
  imodintro
  iapply (bigSep_with_persistent (R := records m κ) (Φ := fun c => iprop(own' c ∗ bundle m c)) fun c _ => start_one m c κ)
  isplitr
  · unfold records
    isplitr; · iexact Hinv
    iexact Hr
  iapply (Entails.of_eq (bigSep_sep' Finset.univ own' (bundle m)).symm)
  isplitr [HB]
  · iapply (Entails.of_eq (own_all (F := F)).symm)
    isplitl [Hat]; · iapply (Entails.of_eq (bar_all (F := F) fun g => atPos ER g 0 ∅ 0)) $$ Hat
    isplitl [Hopen]; · iapply (Entails.of_eq (sc_all (F := F) fun g => openTok ER g)) $$ Hopen
    iapply (Entails.of_eq (duties_dealt (F := F))) $$ Htok
  iexact HB

/-! ## The run -/

theorem only_bar : ∀ sm : SemLoc sig, sm.isScoped .tc = false → sm = .reg barS := by decide

abbrev argsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem uc (r : Ref sig .tc) (h : r.isScoped = false) : (Proc.devRef .tc r : DevRef τ sig) ∈ Pipeline.ucRefs τ sig :=
  Finset.mem_filter.mpr ⟨StableHlo.devRef_mem_tcRefs r, by simpa using h⟩

theorem read_end (s' : Phys nD τ sig (Elt F)) : iprop(Tₙ m c ∗ SI s')
    ⊢ (|={Set.univ}=> iprop(⌜(argsKept m s'.mem c ∧ s'.mem.mem ((c.tc : Thread nD τ).loc main_v23) = V3 m (outs m) c main_v23) ∧ s'.mem.sem (cell c .bar) = 0⌝ ∗ SI s') : sProp 𝕄) := by
  unfold Tₙ StableHlo.held Yk
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨⟨(h _ (uc main_arg0 rfl)).trans (V3_main_arg0 m (outs m) c), (h _ (uc main_arg1 rfl)).trans (V3_main_arg1 m (outs m) c),
      (h _ (uc main_arg2 rfl)).trans (V3_main_arg2 m (outs m) c), (h _ (uc main_arg3 rfl)).trans (V3_main_arg3 m (outs m) c),
      (h _ (uc main_arg4 rfl)).trans (V3_main_arg4 m (outs m) c)⟩, h _ (uc main_v23 rfl)⟩, by simpa using hb⟩
  iexact HSI

set_option backward.isDefEq.respectTransparency.types false in
/-- Every fair run ends; the arguments are as launched, the counters at zero, and each device's result is what its body computes. -/
theorem run_main : θ_run (defs (F := F)) (onTc (τ := τ) (main (F := F))) ⟨m, fun _ => 0, ρ⟩
    (fun r => (∀ c : Dev nD, argsKept m r.2 c ∧ r.2.mem ((c.tc : Thread nD τ).loc main_v23) = V3 m (outs m) c main_v23) ∧ r.2.sem = fun _ => 0) :=
  Pipeline.θ_run_regions_kit_dev_sems (pcfgs (F := F)) adm (dats m) () cellOf_inj EP defs₀ 𝒱₀ L lv m ρ main
    (segs m (outs m) 𝒱₀ L lv (E m) () (dats m) (region m))
    (fun c Q => by
      rewrite [main_chain c, Pipeline.Seg.run_eq_chain,
        show (segs m (outs m) 𝒱₀ L lv (E m) () (dats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun c => owed c 0 0 0) L_of_ne kept seed
    (by
      unfold seed
      iintro Hu
      ihave H := (ownU_pair _ _) $$ Hu
      icases H with ⟨HP, HX⟩
      imodintro
      isplitl [HP]; · iexact HP
      rw [kept_all]; iexact HX)
    (T₀ m) (Tₙ m)
    (fun c => ⟨.rfl, region_pre m c, region_post m c, by
      show iprop(StableHlo.held (c : Thread nD τ) (Pipeline.ucRefs τ sig) (V3 m (outs m) c)
          ∗ (Yk c ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO⟩)
    (start_all m ρ)
    (fun c s => (argsKept m s c ∧ s.mem ((c.tc : Thread nD τ).loc main_v23) = V3 m (outs m) c main_v23) ∧ s.sem (cell c .bar) = 0)
    (read_end m)
    (fun s h hs => ⟨fun c => (h c).1, sem_eq_zero hs fun c sm hsm => by
        obtain rfl := only_bar sm hsm
        exact (h c).2⟩)

end Cert.Proof

end
-- ==== Proof.Frames.lean ====
/- The three programs end, with their arguments and their counters as at the launch. -/
module

public import proofs.«01_k».proof.Defs
public import proofs.«01_k».proof.Proof.Run
public import proofs.«01_k».proof.Proof.Gen.KernelIdeal
public import proofs.«01_k».proof.Proof.Gen.ReferenceIdeal.Run

@[expose] public section

noncomputable section

namespace Cert.Proof

open Idealize.ShloMosaic Idealize.ShloMosaic.TcCoe Idealize.SL.Sem Cert.Kernel Cert.Kernel.Gen

/-- The kernel, as printed. -/
theorem frame_p : Cert.quiescent_Kernel := by
  intro m ρ _
  exact (θ_run defs _ _).mono (fun _ h => ⟨fun c => (h.1 c).1, h.2⟩) (run_main (F := Bits) m ρ)

set_option maxRecDepth 100000 in
set_option maxHeartbeats 4000000 in
/-- Both printings give the body its label. -/
theorem defs₀_ideal : Cert.KernelIdeal.defs₀ (F := Ideal) = defs₀ (F := Ideal) := by
  unfold Cert.KernelIdeal.defs₀ defs₀
  refine congrArg Defs.onTc ?_
  funext l a
  match l, a with
  | 0, (t, s) => rfl
  | ⟨_ + 1, h⟩, _ => exact absurd h (Nat.not_lt.2 (Nat.le_add_left _ _))

set_option maxRecDepth 100000 in
set_option maxHeartbeats 4000000 in
/-- Both printings run by one table. -/
theorem defs_ideal : Cert.KernelIdeal.defs (F := Ideal) = defs (F := Ideal) := by
  unfold Cert.KernelIdeal.defs defs
  rw [← defs₀_ideal]
  rfl

set_option maxRecDepth 100000 in
set_option maxHeartbeats 4000000 in
/-- Both printings run one text. -/
theorem main_ideal : Cert.KernelIdeal.main (F := Ideal) = main (F := Ideal) := rfl

set_option maxRecDepth 100000 in
set_option maxHeartbeats 4000000 in
/-- The kernel over the reals: the same text, so the same run. -/
theorem run_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev nD, argsKept (F := Ideal) m r.2 c ∧ r.2.mem ((c.tc : Thread nD τ).loc main_v23) = V3 (F := Ideal) m (outs m) c main_v23) ∧ r.2.sem = fun _ => 0) := by
  rw [defs_ideal, main_ideal]
  exact run_main (F := Ideal) m ρ

/-- The kernel over the reals: arguments and counters. -/
theorem frame_pi : Cert.quiescent_KernelIdeal := by
  intro m ρ _
  exact (θ_run Cert.KernelIdeal.defs _ _).mono (fun _ h => ⟨fun c => (h.1 c).1, h.2⟩) (run_ideal m ρ)

/-- The reference. -/
theorem frame_ri : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Equal.lean ====
/- The kernel and the reference end with the same values. -/
module

public import proofs.«01_k».proof.Proof.Value
public import proofs.«01_k».proof.Proof.Frames

@[expose] public section

noncomputable section

namespace Cert.Proof

open Idealize.ShloMosaic Idealize.ShloMosaic.TcCoe Idealize.ShloMosaic.ValueIdx Idealize.SL.Sem
open Cert.Kernel Cert.Kernel.Gen

section Blocks

variable {α : Type}

/-- A device's two batches. -/
theorem batch_block (h : Layout.Tiles ⟨3, ![2, 128, 512]⟩ ⟨3, ![32, 128, 512]⟩ 0 16) (v : Shape.Idx ⟨3, ![32, 128, 512]⟩ → α) (c : Fin 16) (p : Fin 2) (i : Fin 128) (e : Fin 512) :
    Layout.block ⟨3, ![2, 128, 512]⟩ ⟨3, ![32, 128, 512]⟩ 0 16 c v h (ix3 p i e) = v (ix3 (batchOf c p) i e) := by
  rw [Layout.block_apply]
  refine congrArg v (funext fun a => Fin.ext ?_)
  match a with
  | ⟨0, _⟩ => exact (h.idx_val_self c _ _ rfl).trans (by show c.val * 2 + p.val = 2 * c.val + p.val; omega)
  | ⟨1, _⟩ => exact h.idx_val_of_ne c _ _ (by simp)
  | ⟨2, _⟩ => exact h.idx_val_of_ne c _ _ (by simp)

/-- A device's columns of the first factor. -/
theorem cols_block (h : Layout.Tiles ⟨2, ![512, 256]⟩ ⟨2, ![512, 4096]⟩ 1 16) (v : Shape.Idx ⟨2, ![512, 4096]⟩ → α) (s : Fin 16) (e : Fin 512) (k : Fin 4) (d : Fin 64) :
    Layout.block ⟨2, ![512, 256]⟩ ⟨2, ![512, 4096]⟩ 1 16 s v h (ix2 e (colOf k d)) = v (ix2 e (Ref.col (headIn s k) d)) := by
  rw [Layout.block_apply]
  refine congrArg v (funext fun a => Fin.ext ?_)
  match a with
  | ⟨0, _⟩ => exact h.idx_val_of_ne s _ _ (by simp)
  | ⟨1, _⟩ => exact (h.idx_val_self s _ _ rfl).trans (by show s.val * 256 + (k.val * 64 + d.val) = (4 * s.val + k.val) * 64 + d.val; omega)

/-- A device's rows of the second factor. -/
theorem rows_block (h : Layout.Tiles ⟨2, ![256, 512]⟩ ⟨2, ![4096, 512]⟩ 0 16) (v : Shape.Idx ⟨2, ![4096, 512]⟩ → α) (s : Fin 16) (k : Fin 4) (d : Fin 64) (e : Fin 512) :
    Layout.block ⟨2, ![256, 512]⟩ ⟨2, ![4096, 512]⟩ 0 16 s v h (ix2 (colOf k d) e) = v (ix2 (Ref.col (headIn s k) d) e) := by
  rw [Layout.block_apply]
  refine congrArg v (funext fun a => Fin.ext ?_)
  match a with
  | ⟨0, _⟩ => exact (h.idx_val_self s _ _ rfl).trans (by show s.val * 256 + (k.val * 64 + d.val) = (4 * s.val + k.val) * 64 + d.val; omega)
  | ⟨1, _⟩ => exact h.idx_val_of_ne s _ _ (by simp)

end Blocks

/-- Over the reals each device ends with its rows of the reference's result. -/
theorem algebraic : Cert.algebraic_KernelIdeal_ReferenceIdeal := by
  intro m g m' g' _ hm
  refine ⟨Cert.ReferenceIdeal.Value.res_main_v49 m' 0,
    (θ_run Cert.KernelIdeal.defs _ _).mono (fun _ h c => ⟨(h.1 c).2.trans ?_, (h.1 c).1⟩) (run_ideal m g),
    (θ_run Cert.ReferenceIdeal.defs _ _).mono (fun _ h => h 0) (Cert.ReferenceIdeal.Value.run m' g')⟩
  rw [Ref.res_eq]
  have key := value_at (m := m) (fun c p i e => (congrFun (hm c).1 _).trans (batch_block _ _ c p i e))
    (fun s e k d => (congrFun (hm s).2.1 _).trans (cols_block _ _ s e k d)) (fun c => (hm c).2.2.1) (fun c => (hm c).2.2.2.1)
    (fun s k d e => (congrFun (hm s).2.2.2.2 _).trans (rows_block _ _ s k d e)) c
  funext j
  obtain ⟨p, i, e, rfl⟩ : ∃ p i e, j = ix3 p i e := ⟨_, _, _, eq_ix3 j⟩
  exact (key p i e).trans (batch_block _ _ c p i e).symm

end Cert.Proof

end
-- ==== Proof.lean ====
/- The claims about the kernel, together. -/
module

public import proofs.«01_k».proof.Proof.Equal

@[expose] public section

noncomputable section

namespace Cert.Proof

theorem claim : Cert.Claim := ⟨Cert.Kernel.Gen.facts, Cert.KernelIdeal.Gen.facts, Cert.ReferenceIdeal.Gen.facts,
  frame_p, frame_pi, frame_ri, trivial, algebraic⟩

end Cert.Proof

end
